-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S_ : Shape := ⟨0, ![]⟩
abbrev S8 : Shape := ⟨1, ![8]⟩
abbrev S4 : Shape := ⟨1, ![4]⟩
abbrev S1 : Shape := ⟨1, ![1]⟩
abbrev S128x1024 : Shape := ⟨2, ![128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_17 : BitVec 32 := 8#32
  let v33 : BitVec 32 := Scalar.muli v19 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v39 : BitVec 32 := Scalar.muli v2 c8_i32_22
  let v40 : BitVec 32 := Scalar.addi c0_i32_23 v39
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_24 : BitVec 32 := 4#32
  let v41 : BitVec 32 := Scalar.muli v20 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_dev3 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v45 : BitVec 32 := Scalar.muli v2 c8_i32_27
  let v46 : BitVec 32 := Scalar.addi c0_i32_28 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_30 : BitVec 32 := 1#32
  let v49 : BitVec 32 := Scalar.muli v23 c1_i32_30
  let v50 : BitVec 32 := Scalar.addi v48 v49
  v50.toNat
def k0_off1 (d0 : Dev nD) (c0_i32_33 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v51 : BitVec 32 := Scalar.muli v2 c4096_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v54 : BitVec 32 := Scalar.muli v25 c1024_i32
  let v55 : BitVec 32 := Scalar.addi v54 c0_i32_33
  let v56 : BitVec 32 := Scalar.addi v51 v55
  let c0_i32_40 : BitVec 32 := 0#32
  ![v56.toNat, 0]
def k0_off2 (d0 : Dev nD) (c0_i32_33 : BitVec 32) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v54 : BitVec 32 := Scalar.muli v25 c1024_i32
  let v55 : BitVec 32 := Scalar.addi v54 c0_i32_33
  let c0_i32_41 : BitVec 32 := 0#32
  ![v55.toNat, 0]
def k0_dev4 (d0 : Dev nD) : Nat :=
  let c0_i32_37 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_36 : BitVec 32 := 8#32
  let v57 : BitVec 32 := Scalar.muli v19 c8_i32_36
  let v58 : BitVec 32 := Scalar.addi c0_i32_37 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v59 : BitVec 32 := Scalar.muli v5 c4_i32_38
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v61 : BitVec 32 := Scalar.muli v8 c1_i32_39
  let v62 : BitVec 32 := Scalar.addi v60 v61
  v62.toNat
def k0_dev5 (d0 : Dev nD) : Nat :=
  let c0_i32_46 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_45 : BitVec 32 := 8#32
  let v72 : BitVec 32 := Scalar.muli v19 c8_i32_45
  let v73 : BitVec 32 := Scalar.addi c0_i32_46 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v74 : BitVec 32 := Scalar.muli v5 c4_i32_47
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.muli v8 c1_i32_48
  let v77 : BitVec 32 := Scalar.addi v75 v76
  v77.toNat
def k0_dev6 (d0 : Dev nD) : Nat :=
  let c0_i32_55 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_54 : BitVec 32 := 8#32
  let v87 : BitVec 32 := Scalar.muli v19 c8_i32_54
  let v88 : BitVec 32 := Scalar.addi c0_i32_55 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v89 : BitVec 32 := Scalar.muli v5 c4_i32_56
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v91 : BitVec 32 := Scalar.muli v8 c1_i32_57
  let v92 : BitVec 32 := Scalar.addi v90 v91
  v92.toNat
def k0_dev7 (d0 : Dev nD) : Nat :=
  let c0_i32_64 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_63 : BitVec 32 := 8#32
  let v102 : BitVec 32 := Scalar.muli v19 c8_i32_63
  let v103 : BitVec 32 := Scalar.addi c0_i32_64 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v104 : BitVec 32 := Scalar.muli v5 c4_i32_65
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v106 : BitVec 32 := Scalar.muli v8 c1_i32_66
  let v107 : BitVec 32 := Scalar.addi v105 v106
  v107.toNat
def k0_dev8 (d0 : Dev nD) : Nat :=
  let c0_i32_73 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_72 : BitVec 32 := 8#32
  let v117 : BitVec 32 := Scalar.muli v19 c8_i32_72
  let v118 : BitVec 32 := Scalar.addi c0_i32_73 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_74 : BitVec 32 := 4#32
  let v119 : BitVec 32 := Scalar.muli v5 c4_i32_74
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v121 : BitVec 32 := Scalar.muli v8 c1_i32_75
  let v122 : BitVec 32 := Scalar.addi v120 v121
  v122.toNat
def k0_dev9 (d0 : Dev nD) : Nat :=
  let c0_i32_81 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_80 : BitVec 32 := 8#32
  let v132 : BitVec 32 := Scalar.muli v19 c8_i32_80
  let v133 : BitVec 32 := Scalar.addi c0_i32_81 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v134 : BitVec 32 := Scalar.muli v5 c4_i32_82
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v136 : BitVec 32 := Scalar.muli v8 c1_i32_83
  let v137 : BitVec 32 := Scalar.addi v135 v136
  v137.toNat
def k0_dev10 (d0 : Dev nD) : Nat :=
  let c0_i32_89 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_88 : BitVec 32 := 8#32
  let v147 : BitVec 32 := Scalar.muli v19 c8_i32_88
  let v148 : BitVec 32 := Scalar.addi c0_i32_89 v147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v149 : BitVec 32 := Scalar.muli v5 c4_i32_90
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v151 : BitVec 32 := Scalar.muli v8 c1_i32_91
  let v152 : BitVec 32 := Scalar.addi v150 v151
  v152.toNat
def k0_dev11 (d0 : Dev nD) : Nat :=
  let c0_i32_97 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_96 : BitVec 32 := 8#32
  let v162 : BitVec 32 := Scalar.muli v19 c8_i32_96
  let v163 : BitVec 32 := Scalar.addi c0_i32_97 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v164 : BitVec 32 := Scalar.muli v5 c4_i32_98
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v166 : BitVec 32 := Scalar.muli v8 c1_i32_99
  let v167 : BitVec 32 := Scalar.addi v165 v166
  v167.toNat
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v51 : BitVec 32 := Scalar.muli v2 c4096_i32
  let c0_i32_102 : BitVec 32 := 0#32
  ![v51.toNat, 0]
def k0_off4 (d0 : Dev nD) (c0_i32_112 : BitVec 32) : Fin 2 → Nat :=
  let c1_i32_31 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v52 : BitVec 32 := Scalar.subi c1_i32_31 v2
  let c4096_i32_32 : BitVec 32 := 4096#32
  let v53 : BitVec 32 := Scalar.muli v52 c4096_i32_32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32_111 : BitVec 32 := 1024#32
  let v185 : BitVec 32 := Scalar.muli v25 c1024_i32_111
  let v186 : BitVec 32 := Scalar.addi v53 v185
  let v187 : BitVec 32 := Scalar.addi v186 c0_i32_112
  let c0_i32_119 : BitVec 32 := 0#32
  ![v187.toNat, 0]
def k0_dev12 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v188 : BitVec 32 := Scalar.muli v2 c8_i32_115
  let v189 : BitVec 32 := Scalar.addi c0_i32_116 v188
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_117 : BitVec 32 := 4#32
  let v190 : BitVec 32 := Scalar.muli v20 c4_i32_117
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v192 : BitVec 32 := Scalar.muli v8 c1_i32_118
  let v193 : BitVec 32 := Scalar.addi v191 v192
  v193.toNat
def k0_dev13 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v200 : BitVec 32 := Scalar.muli v2 c8_i32_123
  let v201 : BitVec 32 := Scalar.addi c0_i32_124 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v202 : BitVec 32 := Scalar.muli v5 c4_i32_125
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_126 : BitVec 32 := 1#32
  let v204 : BitVec 32 := Scalar.muli v23 c1_i32_126
  let v205 : BitVec 32 := Scalar.addi v203 v204
  v205.toNat
def k0_dev14 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v225 : BitVec 32 := Scalar.muli v2 c8_i32_141
  let v226 : BitVec 32 := Scalar.addi c0_i32_142 v225
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_143 : BitVec 32 := 4#32
  let v227 : BitVec 32 := Scalar.muli v20 c4_i32_143
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v229 : BitVec 32 := Scalar.muli v8 c1_i32_144
  let v230 : BitVec 32 := Scalar.addi v228 v229
  v230.toNat
def k0_dev15 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v237 : BitVec 32 := Scalar.muli v2 c8_i32_149
  let v238 : BitVec 32 := Scalar.addi c0_i32_150 v237
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v239 : BitVec 32 := Scalar.muli v5 c4_i32_151
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_152 : BitVec 32 := 1#32
  let v241 : BitVec 32 := Scalar.muli v23 c1_i32_152
  let v242 : BitVec 32 := Scalar.addi v240 v241
  v242.toNat
def k0_dev16 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v262 : BitVec 32 := Scalar.muli v2 c8_i32_167
  let v263 : BitVec 32 := Scalar.addi c0_i32_168 v262
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_169 : BitVec 32 := 4#32
  let v264 : BitVec 32 := Scalar.muli v20 c4_i32_169
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v266 : BitVec 32 := Scalar.muli v8 c1_i32_170
  let v267 : BitVec 32 := Scalar.addi v265 v266
  v267.toNat
def k0_dev17 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v274 : BitVec 32 := Scalar.muli v2 c8_i32_175
  let v275 : BitVec 32 := Scalar.addi c0_i32_176 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v276 : BitVec 32 := Scalar.muli v5 c4_i32_177
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_178 : BitVec 32 := 1#32
  let v278 : BitVec 32 := Scalar.muli v23 c1_i32_178
  let v279 : BitVec 32 := Scalar.addi v277 v278
  v279.toNat
def k0_dev18 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v299 : BitVec 32 := Scalar.muli v2 c8_i32_193
  let v300 : BitVec 32 := Scalar.addi c0_i32_194 v299
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_195 : BitVec 32 := 4#32
  let v301 : BitVec 32 := Scalar.muli v20 c4_i32_195
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v303 : BitVec 32 := Scalar.muli v8 c1_i32_196
  let v304 : BitVec 32 := Scalar.addi v302 v303
  v304.toNat
def k0_dev19 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v311 : BitVec 32 := Scalar.muli v2 c8_i32_201
  let v312 : BitVec 32 := Scalar.addi c0_i32_202 v311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v313 : BitVec 32 := Scalar.muli v5 c4_i32_203
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_204 : BitVec 32 := 1#32
  let v315 : BitVec 32 := Scalar.muli v23 c1_i32_204
  let v316 : BitVec 32 := Scalar.addi v314 v315
  v316.toNat
def k0_dev20 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v336 : BitVec 32 := Scalar.muli v2 c8_i32_219
  let v337 : BitVec 32 := Scalar.addi c0_i32_220 v336
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_221 : BitVec 32 := 4#32
  let v338 : BitVec 32 := Scalar.muli v20 c4_i32_221
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v340 : BitVec 32 := Scalar.muli v8 c1_i32_222
  let v341 : BitVec 32 := Scalar.addi v339 v340
  v341.toNat
def k0_dev21 (d0 : Dev nD) : Nat :=
  let c0_i32_228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_227 : BitVec 32 := 8#32
  let v348 : BitVec 32 := Scalar.muli v2 c8_i32_227
  let v349 : BitVec 32 := Scalar.addi c0_i32_228 v348
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_229 : BitVec 32 := 4#32
  let v350 : BitVec 32 := Scalar.muli v5 c4_i32_229
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_230 : BitVec 32 := 1#32
  let v352 : BitVec 32 := Scalar.muli v23 c1_i32_230
  let v353 : BitVec 32 := Scalar.addi v351 v352
  v353.toNat
def k0_dev22 (d0 : Dev nD) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v373 : BitVec 32 := Scalar.muli v2 c8_i32_245
  let v374 : BitVec 32 := Scalar.addi c0_i32_246 v373
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_247 : BitVec 32 := 4#32
  let v375 : BitVec 32 := Scalar.muli v20 c4_i32_247
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v377 : BitVec 32 := Scalar.muli v8 c1_i32_248
  let v378 : BitVec 32 := Scalar.addi v376 v377
  v378.toNat
def k0_dev23 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v385 : BitVec 32 := Scalar.muli v2 c8_i32_253
  let v386 : BitVec 32 := Scalar.addi c0_i32_254 v385
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v387 : BitVec 32 := Scalar.muli v5 c4_i32_255
  let v388 : BitVec 32 := Scalar.addi v386 v387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_256 : BitVec 32 := 1#32
  let v389 : BitVec 32 := Scalar.muli v23 c1_i32_256
  let v390 : BitVec 32 := Scalar.addi v388 v389
  v390.toNat
def k0_dev24 (d0 : Dev nD) : Nat :=
  let c0_i32_272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_271 : BitVec 32 := 8#32
  let v410 : BitVec 32 := Scalar.muli v2 c8_i32_271
  let v411 : BitVec 32 := Scalar.addi c0_i32_272 v410
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_273 : BitVec 32 := 4#32
  let v412 : BitVec 32 := Scalar.muli v20 c4_i32_273
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v414 : BitVec 32 := Scalar.muli v8 c1_i32_274
  let v415 : BitVec 32 := Scalar.addi v413 v414
  v415.toNat
def k0_dev25 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v422 : BitVec 32 := Scalar.muli v2 c8_i32_279
  let v423 : BitVec 32 := Scalar.addi c0_i32_280 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v424 : BitVec 32 := Scalar.muli v5 c4_i32_281
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_282 : BitVec 32 := 1#32
  let v426 : BitVec 32 := Scalar.muli v23 c1_i32_282
  let v427 : BitVec 32 := Scalar.addi v425 v426
  v427.toNat
def k0_dev26 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v447 : BitVec 32 := Scalar.muli v2 c8_i32_297
  let v448 : BitVec 32 := Scalar.addi c0_i32_298 v447
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_299 : BitVec 32 := 4#32
  let v449 : BitVec 32 := Scalar.muli v20 c4_i32_299
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v451 : BitVec 32 := Scalar.muli v8 c1_i32_300
  let v452 : BitVec 32 := Scalar.addi v450 v451
  v452.toNat
def k0_dev27 (d0 : Dev nD) : Nat :=
  let c0_i32_306 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_305 : BitVec 32 := 8#32
  let v459 : BitVec 32 := Scalar.muli v2 c8_i32_305
  let v460 : BitVec 32 := Scalar.addi c0_i32_306 v459
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_307 : BitVec 32 := 4#32
  let v461 : BitVec 32 := Scalar.muli v5 c4_i32_307
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_308 : BitVec 32 := 1#32
  let v463 : BitVec 32 := Scalar.muli v23 c1_i32_308
  let v464 : BitVec 32 := Scalar.addi v462 v463
  v464.toNat
def k0_off5 (d0 : Dev nD) (c0_i32_320 : BitVec 32) : Fin 2 → Nat :=
  let c1_i32_31 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v52 : BitVec 32 := Scalar.subi c1_i32_31 v2
  let c4096_i32_32 : BitVec 32 := 4096#32
  let v53 : BitVec 32 := Scalar.muli v52 c4096_i32_32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c1024_i32_319 : BitVec 32 := 1024#32
  let v481 : BitVec 32 := Scalar.muli v31 c1024_i32_319
  let v482 : BitVec 32 := Scalar.addi v53 v481
  let v483 : BitVec 32 := Scalar.addi v482 c0_i32_320
  let c0_i32_327 : BitVec 32 := 0#32
  ![v483.toNat, 0]
def k0_dev28 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v484 : BitVec 32 := Scalar.muli v2 c8_i32_323
  let v485 : BitVec 32 := Scalar.addi c0_i32_324 v484
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_325 : BitVec 32 := 4#32
  let v486 : BitVec 32 := Scalar.muli v20 c4_i32_325
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v488 : BitVec 32 := Scalar.muli v8 c1_i32_326
  let v489 : BitVec 32 := Scalar.addi v487 v488
  v489.toNat
def k0_dev29 (d0 : Dev nD) : Nat :=
  let c0_i32_350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_349 : BitVec 32 := 8#32
  let v519 : BitVec 32 := Scalar.muli v2 c8_i32_349
  let v520 : BitVec 32 := Scalar.addi c0_i32_350 v519
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_351 : BitVec 32 := 4#32
  let v521 : BitVec 32 := Scalar.muli v20 c4_i32_351
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v523 : BitVec 32 := Scalar.muli v8 c1_i32_352
  let v524 : BitVec 32 := Scalar.addi v522 v523
  v524.toNat
def k0_dev30 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v554 : BitVec 32 := Scalar.muli v2 c8_i32_375
  let v555 : BitVec 32 := Scalar.addi c0_i32_376 v554
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_377 : BitVec 32 := 4#32
  let v556 : BitVec 32 := Scalar.muli v20 c4_i32_377
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v558 : BitVec 32 := Scalar.muli v8 c1_i32_378
  let v559 : BitVec 32 := Scalar.addi v557 v558
  v559.toNat
def k0_dev31 (d0 : Dev nD) : Nat :=
  let c0_i32_402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_401 : BitVec 32 := 8#32
  let v589 : BitVec 32 := Scalar.muli v2 c8_i32_401
  let v590 : BitVec 32 := Scalar.addi c0_i32_402 v589
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_403 : BitVec 32 := 4#32
  let v591 : BitVec 32 := Scalar.muli v20 c4_i32_403
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v593 : BitVec 32 := Scalar.muli v8 c1_i32_404
  let v594 : BitVec 32 := Scalar.addi v592 v593
  v594.toNat
def k0_off6 (d0 : Dev nD) (c512_i32_432 : BitVec 32) : Fin 2 → Nat :=
  let c1_i32_31 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v52 : BitVec 32 := Scalar.subi c1_i32_31 v2
  let c4096_i32_32 : BitVec 32 := 4096#32
  let v53 : BitVec 32 := Scalar.muli v52 c4096_i32_32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32_431 : BitVec 32 := 1024#32
  let v631 : BitVec 32 := Scalar.muli v28 c1024_i32_431
  let v632 : BitVec 32 := Scalar.addi v53 v631
  let v633 : BitVec 32 := Scalar.addi v632 c512_i32_432
  let c0_i32_439 : BitVec 32 := 0#32
  ![v633.toNat, 0]
def k0_dev32 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_435 : BitVec 32 := 8#32
  let v634 : BitVec 32 := Scalar.muli v2 c8_i32_435
  let v635 : BitVec 32 := Scalar.addi c0_i32_436 v634
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_437 : BitVec 32 := 4#32
  let v636 : BitVec 32 := Scalar.muli v5 c4_i32_437
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_438 : BitVec 32 := 1#32
  let v638 : BitVec 32 := Scalar.muli v23 c1_i32_438
  let v639 : BitVec 32 := Scalar.addi v637 v638
  v639.toNat
def k0_dev33 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v669 : BitVec 32 := Scalar.muli v2 c8_i32_461
  let v670 : BitVec 32 := Scalar.addi c0_i32_462 v669
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_463 : BitVec 32 := 4#32
  let v671 : BitVec 32 := Scalar.muli v5 c4_i32_463
  let v672 : BitVec 32 := Scalar.addi v670 v671
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_464 : BitVec 32 := 1#32
  let v673 : BitVec 32 := Scalar.muli v23 c1_i32_464
  let v674 : BitVec 32 := Scalar.addi v672 v673
  v674.toNat
def k0_dev34 (d0 : Dev nD) : Nat :=
  let c0_i32_488 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_487 : BitVec 32 := 8#32
  let v704 : BitVec 32 := Scalar.muli v2 c8_i32_487
  let v705 : BitVec 32 := Scalar.addi c0_i32_488 v704
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_489 : BitVec 32 := 4#32
  let v706 : BitVec 32 := Scalar.muli v5 c4_i32_489
  let v707 : BitVec 32 := Scalar.addi v705 v706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_490 : BitVec 32 := 1#32
  let v708 : BitVec 32 := Scalar.muli v23 c1_i32_490
  let v709 : BitVec 32 := Scalar.addi v707 v708
  v709.toNat
def k0_dev35 (d0 : Dev nD) : Nat :=
  let c0_i32_514 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_513 : BitVec 32 := 8#32
  let v739 : BitVec 32 := Scalar.muli v2 c8_i32_513
  let v740 : BitVec 32 := Scalar.addi c0_i32_514 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v741 : BitVec 32 := Scalar.muli v5 c4_i32_515
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_516 : BitVec 32 := 1#32
  let v743 : BitVec 32 := Scalar.muli v23 c1_i32_516
  let v744 : BitVec 32 := Scalar.addi v742 v743
  v744.toNat
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
The program of one device, written as a list of named steps.

A device moves thirty-two chunks of 128 rows. `Tr` names them by the leg they take; `Step` names
what the body does after its entry barrier; `steps` is the body's own order; and
`body_eq` states that the printed body is the three signals, the barrier wait and these steps.
-/
module

public import Mathlib.Tactic.DeriveFintype
public import proofs.«01_k».proof.Proof.Gen.KernelIdeal.Skeleton
public import proofs.«01_k».proof.Proof.Gen.KernelIdeal.Points

@[expose] public section

noncomputable section

namespace Cert.KernelIdeal.Gather

open Cert.KernelIdeal Cert.KernelIdeal.Gen
open Idealize.ShloMosaic Idealize.SL.Sem

/-- The thirty-two chunks a device sends (and, by symmetry, receives): eight across x, the same eight
    on across y and across z, and four more relayed a second time across y and across z. -/
inductive Tr where
  | x (k : Fin 8) | y (k : Fin 8) | z (k : Fin 8) | ys (k : Fin 4) | zs (k : Fin 4)
  deriving DecidableEq, Fintype

/-- What the body does once past its entry barrier. -/
inductive Step where
  | send (t : Tr) | copy | got (t : Tr) | sent (t : Tr) | copied

/-- The index a leg prints for the chunk's target device. -/
def tgt : Tr → Dev nD → Nat
  | .x 0 => k0_dev4 | .x 1 => k0_dev5 | .x 2 => k0_dev6 | .x 3 => k0_dev7
  | .x 4 => k0_dev8 | .x 5 => k0_dev9 | .x 6 => k0_dev10 | .x 7 => k0_dev11
  | .y 0 => k0_dev12 | .y 1 => k0_dev14 | .y 2 => k0_dev16 | .y 3 => k0_dev18
  | .y 4 => k0_dev20 | .y 5 => k0_dev22 | .y 6 => k0_dev24 | .y 7 => k0_dev26
  | .z 0 => k0_dev13 | .z 1 => k0_dev15 | .z 2 => k0_dev17 | .z 3 => k0_dev19
  | .z 4 => k0_dev21 | .z 5 => k0_dev23 | .z 6 => k0_dev25 | .z 7 => k0_dev27
  | .ys 0 => k0_dev28 | .ys 1 => k0_dev29 | .ys 2 => k0_dev30 | .ys 3 => k0_dev31
  | .zs 0 => k0_dev32 | .zs 1 => k0_dev33 | .zs 2 => k0_dev34 | .zs 3 => k0_dev35

set_option backward.proofsInPublic true in
theorem tgt_lt (t : Tr) (c : Dev nD) : tgt t c < nD := by
  revert t c; decide +kernel

/-- The rows of the result a chunk leaves from, which past the first leg are the rows it lands in. -/
def rowsOff : Tr → Dev nD → Fin 2 → Nat
  | .x k, c => k0_off1 c (BitVec.ofNat 32 (128 * k.val))
  | .y k, c => k0_off4 c (BitVec.ofNat 32 (128 * k.val))
  | .z k, c => k0_off4 c (BitVec.ofNat 32 (128 * k.val))
  | .ys k, c => k0_off5 c (BitVec.ofNat 32 (128 * k.val))
  | .zs k, c => k0_off6 c (BitVec.ofNat 32 (512 + 128 * k.val))

theorem rowsOff_inb : ∀ (t : Tr) (c : Dev nD) (a : Fin 2), rowsOff t c a + S128x1024.size a ≤ S8192x1024.size a
  | .x k, c => k0_off1_inb c k
  | .y k, c => k0_off4_inb c k
  | .z k, c => k0_off4_inb c k
  | .ys k, c => k0_off5_inb c k
  | .zs k, c => k0_off6_inb c k

/-- The device's block, and the result. -/
abbrev xM : Memref sig .tc .hbm S4096x1024 .f32 := Memref.whole main_arg0
abbrev oM : Memref sig .tc .hbm S8192x1024 .f32 := Memref.whole main_v1

/-- The chunk of the result a send of `t` names. -/
abbrev outV (t : Tr) (c : Dev nD) : Memref sig .tc .hbm S128x1024 .f32 :=
  oM.slice (Rect.unit (s := S8192x1024) (rowsOff t c) S128x1024.size (rowsOff_inb t c)) (fun _ => rfl)

/-- The chunk of the block the first leg sends. -/
abbrev inV (k : Fin 8) (c : Dev nD) : Memref sig .tc .hbm S128x1024 .f32 :=
  xM.slice (Rect.unit (s := S4096x1024) (k0_off2 c (BitVec.ofNat 32 (128 * k.val))) S128x1024.size (k0_off2_inb c k)) (fun _ => rfl)

/-- The half of the result the block itself fills. -/
abbrev ownV (c : Dev nD) : Memref sig .tc .hbm S4096x1024 .f32 :=
  oM.slice (Rect.unit (s := S8192x1024) (k0_off3 c) S4096x1024.size (k0_off3_inb c)) (fun _ => rfl)

/-- Where a send of `t` reads. -/
abbrev srcV : Tr → Dev nD → Memref sig .tc .hbm S128x1024 .f32
  | .x k, c => inV k c
  | .y k, c => outV (.y k) c
  | .z k, c => outV (.z k) c
  | .ys k, c => outV (.ys k) c
  | .zs k, c => outV (.zs k) c

/-- One semaphore of a bank of eight, and of a bank of four. -/
abbrev at8 (b : DmaSems sig S8) : Fin 8 → DmaSem sig
  | 0 => ((b.slice (Rect.unit (s := S8) ![0] S1.size inb_S8_S1_0)).squeeze S_ squeezes_S1_S_).sem
  | 1 => ((b.slice (Rect.unit (s := S8) ![1] S1.size inb_S8_S1_1)).squeeze S_ squeezes_S1_S_).sem
  | 2 => ((b.slice (Rect.unit (s := S8) ![2] S1.size inb_S8_S1_2)).squeeze S_ squeezes_S1_S_).sem
  | 3 => ((b.slice (Rect.unit (s := S8) ![3] S1.size inb_S8_S1_3)).squeeze S_ squeezes_S1_S_).sem
  | 4 => ((b.slice (Rect.unit (s := S8) ![4] S1.size inb_S8_S1_4)).squeeze S_ squeezes_S1_S_).sem
  | 5 => ((b.slice (Rect.unit (s := S8) ![5] S1.size inb_S8_S1_5)).squeeze S_ squeezes_S1_S_).sem
  | 6 => ((b.slice (Rect.unit (s := S8) ![6] S1.size inb_S8_S1_6)).squeeze S_ squeezes_S1_S_).sem
  | 7 => ((b.slice (Rect.unit (s := S8) ![7] S1.size inb_S8_S1_7)).squeeze S_ squeezes_S1_S_).sem

abbrev at4 (b : DmaSems sig S4) : Fin 4 → DmaSem sig
  | 0 => ((b.slice (Rect.unit (s := S4) ![0] S1.size inb_S4_S1_0)).squeeze S_ squeezes_S1_S_).sem
  | 1 => ((b.slice (Rect.unit (s := S4) ![1] S1.size inb_S4_S1_1)).squeeze S_ squeezes_S1_S_).sem
  | 2 => ((b.slice (Rect.unit (s := S4) ![2] S1.size inb_S4_S1_2)).squeeze S_ squeezes_S1_S_).sem
  | 3 => ((b.slice (Rect.unit (s := S4) ![3] S1.size inb_S4_S1_3)).squeeze S_ squeezes_S1_S_).sem

/-- The semaphore a send of `t` returns its source on. -/
def sndS : Tr → DmaSem sig
  | .x k => at8 cc0_scratch1 k
  | .y k => at8 cc0_scratch3 k
  | .z k => at8 cc0_scratch5 k
  | .ys k => at4 cc0_scratch7 k
  | .zs k => at4 cc0_scratch9 k

/-- The semaphore chunk `t` is received on. -/
def rcvS : Tr → DmaSem sig
  | .x k => at8 cc0_scratch2 k
  | .y k => at8 cc0_scratch4 k
  | .z k => at8 cc0_scratch6 k
  | .ys k => at4 cc0_scratch8 k
  | .zs k => at4 cc0_scratch10 k

/-- The semaphore of the copy within the device, and the barrier's. -/
abbrev locS : DmaSem sig := cc0_scratch0.sem
abbrev barS : Sem sig := (SemArray.scalar (sig.barrier 0 rfl) : Sems sig S_).sem

variable {F : FTy → Type} [FloatOps F]

/-- The operation a step performs on device `c`. -/
def eff (c : Dev nD) : Step → TpuEff nD τ sig (Elt F) Λ₀ .tc PUnit
  | .send t => .enqueueDma (srcV t c) (.remote (Dev.tc (⟨tgt t c, tgt_lt t c⟩ : Dev nD)) (outV t c) (.dma (sndS t)))
      (.dma (rcvS t)) (View.wordExact_bits rfl) (View.wordExact_bits rfl) ⟨⟨rfl, Or.inl rfl⟩, trivial⟩
  | .copy => .enqueueDma xM (.here (ownV c)) (.dma locS) (Memref.isWhole_whole _).wordExact
      (View.wordExact_bits rfl) ⟨Or.inl rfl, trivial⟩
  | .got t => .waitDma2 (rcvS t) (srcV t c) (outV t c) (View.wordExact_bits rfl) (View.wordExact_bits rfl)
  | .sent (.x k) => .waitDma2 (sndS (.x k)) (outV (.x k) c) (inV k c) (View.wordExact_bits rfl) (View.wordExact_bits rfl)
  | .sent t => .waitDma2 (sndS t) (outV t c) (outV t c) (View.wordExact_bits rfl) (View.wordExact_bits rfl)
  | .copied => .waitDma2 locS xM (ownV c) (Memref.isWhole_whole _).wordExact (View.wordExact_bits rfl)

/-- The steps in a row. -/
def run (c : Dev nD) : List Step → Prog (TpuEff nD τ sig (Elt F) Λ₀ .tc) PUnit
  | [] => .ret ⟨⟩
  | o :: os => .op (eff c o) fun _ => run c os

/-- The body's own order, leg by leg. -/
def relay (k : Fin 8) : List Step := [.got (.x k), .send (.y k), .send (.z k)]
def landLow (k : Fin 4) : List Step := [.got (.z (k.castLE (by decide))), .send (.ys k), .got (.y (k.castLE (by decide)))]
def landHigh (k : Fin 4) : List Step := [.got (.z (k.natAdd 4)), .got (.y (k.natAdd 4)), .send (.zs k)]
def drain (k : Fin 8) : List Step := [.sent (.x k), .sent (.y k), .sent (.z k)]
def drainS (k : Fin 4) : List Step := [.sent (.ys k), .got (.ys k), .sent (.zs k), .got (.zs k)]

def steps : List Step :=
  (List.finRange 8).map (fun k => .send (.x k)) ++ [.copy]
    ++ (List.finRange 8).flatMap relay ++ (List.finRange 4).flatMap landLow ++ (List.finRange 4).flatMap landHigh
    ++ [.copied] ++ (List.finRange 8).flatMap drain ++ (List.finRange 4).flatMap drainS

/-- The steps written out. -/
theorem steps_eq : steps = [
    .send (.x 0), .send (.x 1), .send (.x 2), .send (.x 3), .send (.x 4), .send (.x 5), .send (.x 6), .send (.x 7), .copy,
    .got (.x 0), .send (.y 0), .send (.z 0), .got (.x 1), .send (.y 1), .send (.z 1),
    .got (.x 2), .send (.y 2), .send (.z 2), .got (.x 3), .send (.y 3), .send (.z 3),
    .got (.x 4), .send (.y 4), .send (.z 4), .got (.x 5), .send (.y 5), .send (.z 5),
    .got (.x 6), .send (.y 6), .send (.z 6), .got (.x 7), .send (.y 7), .send (.z 7),
    .got (.z 0), .send (.ys 0), .got (.y 0), .got (.z 1), .send (.ys 1), .got (.y 1),
    .got (.z 2), .send (.ys 2), .got (.y 2), .got (.z 3), .send (.ys 3), .got (.y 3),
    .got (.z 4), .got (.y 4), .send (.zs 0), .got (.z 5), .got (.y 5), .send (.zs 1),
    .got (.z 6), .got (.y 6), .send (.zs 2), .got (.z 7), .got (.y 7), .send (.zs 3),
    .copied,
    .sent (.x 0), .sent (.y 0), .sent (.z 0), .sent (.x 1), .sent (.y 1), .sent (.z 1),
    .sent (.x 2), .sent (.y 2), .sent (.z 2), .sent (.x 3), .sent (.y 3), .sent (.z 3),
    .sent (.x 4), .sent (.y 4), .sent (.z 4), .sent (.x 5), .sent (.y 5), .sent (.z 5),
    .sent (.x 6), .sent (.y 6), .sent (.z 6), .sent (.x 7), .sent (.y 7), .sent (.z 7),
    .sent (.ys 0), .got (.ys 0), .sent (.zs 0), .got (.zs 0), .sent (.ys 1), .got (.ys 1), .sent (.zs 1), .got (.zs 1),
    .sent (.ys 2), .got (.ys 2), .sent (.zs 2), .got (.zs 2), .sent (.ys 3), .got (.ys 3), .sent (.zs 3), .got (.zs 3)] := by
  rfl

end Cert.KernelIdeal.Gather

end
-- ==== Proof.Mesh.lean ====
/-
The mesh, and the rows each chunk lands in.

Sixteen devices on a 2 × 2 × 4 mesh. A device exchanges chunks with three others (`pr 0`, `pr 1`,
`pr 2`: across x, across y, and with its partner along z), each exchange both ways. The half of the
result a device does not hold is thirty-two chunks of 128 rows; `slot c t` is the one chunk `t` lands
in on device `c`, and the thirty-two chunks land in thirty-two different ones.
-/
module

public import proofs.«01_k».proof.Proof.Program

@[expose] public section

noncomputable section

namespace Cert.KernelIdeal.Gather

open Cert.KernelIdeal Cert.KernelIdeal.Gen
open Idealize.ShloMosaic Idealize.SL.Sem

/-- The device across x, across y, and the partner along z. -/
def pr (a : Fin 3) (c : Dev nD) : Dev nD :=
  match a with
  | 0 => ⟨(c.val + 8) % 16, Nat.mod_lt _ (by decide)⟩
  | 1 => ⟨8 * (c.val / 8) + (c.val + 4) % 8, by have := c.isLt; unfold nD at *; omega⟩
  | 2 => ⟨2 * (c.val / 2) + (c.val + 1) % 2, by have := c.isLt; unfold nD at *; omega⟩

/-- The axis a chunk crosses. -/
def ax : Tr → Fin 3
  | .x _ => 0 | .y _ => 1 | .z _ => 2 | .ys _ => 1 | .zs _ => 2

/-- The device chunk `t` of `c` goes to, which is the one chunk `t` comes to `c` from. -/
abbrev mate (t : Tr) (c : Dev nD) : Dev nD := pr (ax t) c

/-- An exchange goes both ways. -/
theorem pr_pr (a : Fin 3) (c : Dev nD) : pr a (pr a c) = c := by
  revert a c; decide +kernel

/-- The printed targets are the three peers. -/
theorem tgt_eq (t : Tr) (c : Dev nD) : (⟨tgt t c, tgt_lt t c⟩ : Dev nD) = mate t c := by
  revert t c; decide +kernel

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel

/-- The first row of the half a device holds, and of the half it does not. -/
def near (c : Dev nD) : Nat := 4096 * (c.val / 8)
def far (c : Dev nD) : Nat := 4096 * (1 - c.val / 8)

/-- The quarter of its block a device sends across x. -/
def own (c : Dev nD) : Nat := 2 * (c.val / 4 % 2) + c.val % 2

/-- The chunk of the far half that `t` lands in. -/
def slot (c : Dev nD) : Tr → Nat
  | .x k => 8 * own c + k.val
  | .y k => 8 * own (pr 1 c) + k.val
  | .z k => 8 * own (pr 2 c) + k.val
  | .ys k => 8 * own (pr 1 (pr 2 c)) + k.val
  | .zs k => 8 * own (pr 1 (pr 2 c)) + 4 + k.val

/-- The first row `t` lands in. -/
def row (c : Dev nD) (t : Tr) : Nat := far c + 128 * slot c t

theorem slot_lt (c : Dev nD) (t : Tr) : slot c t < 32 := by revert c t; decide +kernel
theorem slot_inj : ∀ (c : Dev nD) (t u : Tr), slot c t = slot c u → t = u := by decide +kernel
theorem slot_surj : ∀ (c : Dev nD) (n : Fin 32), ∃ t, slot c t = n.val := by decide +kernel

/-- The rows a send names are the ones its chunk lands in on the receiver. -/
theorem rowsOff_eq (t : Tr) (c : Dev nD) : rowsOff t c = ![row (mate t c) t, 0] := by
  revert t c; decide +kernel

theorem off2_eq (c : Dev nD) (k : Fin 8) : k0_off2 c (BitVec.ofNat 32 (128 * k.val)) = ![1024 * own c + 128 * k.val, 0] := by
  revert c k; decide +kernel

theorem off3_eq (c : Dev nD) : k0_off3 c = ![near c, 0] := k0_off3_eq c

theorem own_lt (c : Dev nD) : own c < 4 := by unfold own; omega

/-- The chunk a relayed chunk is read from: what an earlier exchange landed on the sender. -/
def via : Tr → Tr
  | .x k => .x k
  | .y k => .x k
  | .z k => .x k
  | .ys k => .z (k.castLE (by decide))
  | .zs k => .y (k.natAdd 4)

/-- A chunk that is relayed is one of those read from the result. -/
def relayed : Tr → Bool
  | .x _ => false
  | _ => true

/-- A relayed chunk lands in the rows it was read from. -/
theorem row_mate (t : Tr) (h : relayed t = true) (c : Dev nD) : row (mate t c) t = row c (via t) := by
  revert t c; decide +kernel

/-- The halves of the two ends of an exchange: the same off x, swapped across it. -/
theorem far_mate (t : Tr) (h : relayed t = true) (c : Dev nD) : far (mate t c) = far c := by
  revert t c; decide +kernel
theorem far_mate_x (c : Dev nD) : far (pr 0 c) = near c := by revert c; decide +kernel
theorem own_mate_x (c : Dev nD) : own (pr 0 c) = own c := by revert c; decide +kernel

end Cert.KernelIdeal.Gather

end
-- ==== Proof.Contents.lean ====
/-
Rows of the two buffers, and what the result holds.

`oBand n l` is rows `n … n+l-1` of the result and `xBand n l` those of the block. `whole X c` is the
result on device `c` when device `d` starts with the block `X d`: the half `c` holds is its own
block, each quarter of the other half comes from the device across x that held it. The lemmas say
that every chunk a device sends is, where it lands, what the receiver's result is to hold there.
-/
module

public import proofs.«01_k».proof.Proof.Mesh

@[expose] public section

noncomputable section

namespace Cert.KernelIdeal.Gather

open Cert.KernelIdeal Cert.KernelIdeal.Gen
open Idealize.ShloMosaic Idealize.SL.Sem

/-- Rows `n … n + l - 1` of the result. -/
def oBand (n l : Nat) : Finset S8192x1024.Idx := Finset.univ.filter fun i => n ≤ (i 0).val ∧ (i 0).val < n + l

/-- Rows `n … n + l - 1` of the block. -/
def xBand (n l : Nat) : Finset S4096x1024.Idx := Finset.univ.filter fun i => n ≤ (i 0).val ∧ (i 0).val < n + l

theorem mem_oBand {n l : Nat} {i : S8192x1024.Idx} : i ∈ oBand n l ↔ n ≤ (i 0).val ∧ (i 0).val < n + l := by
  simp [oBand]

theorem mem_xBand {n l : Nat} {i : S4096x1024.Idx} : i ∈ xBand n l ↔ n ≤ (i 0).val ∧ (i 0).val < n + l := by
  simp [xBand]

/-- A rectangle of whole rows of the result is a band. -/
theorem rect_oBand {off sz : Fin 2 → Nat} {n l : Nat} {inb} (ho : off = ![n, 0]) (hs : sz = ![l, 1024]) :
    (Rect.unit (s := S8192x1024) off sz inb).set = oBand n l := by
  subst ho hs
  ext i
  rw [Rect.mem_set_unit, mem_oBand]
  constructor
  · intro h; exact h 0
  · intro h a
    match a with
    | 0 => exact h
    | 1 => have := (i 1).isLt; exact ⟨Nat.zero_le _, by simpa using this⟩

/-- A rectangle of whole rows of the block is a band. -/
theorem rect_xBand {off sz : Fin 2 → Nat} {n l : Nat} {inb} (ho : off = ![n, 0]) (hs : sz = ![l, 1024]) :
    (Rect.unit (s := S4096x1024) off sz inb).set = xBand n l := by
  subst ho hs
  ext i
  rw [Rect.mem_set_unit, mem_xBand]
  constructor
  · intro h; exact h 0
  · intro h a
    match a with
    | 0 => exact h
    | 1 => have := (i 1).isLt; exact ⟨Nat.zero_le _, by simpa using this⟩

/-- The rows a send of `t` names on device `c`. -/
theorem outV_set (t : Tr) (c : Dev nD) : (outV t c).view.set = oBand (row (mate t c) t) 128 :=
  (View.set_slice_whole main_v1 _).trans (rect_oBand (rowsOff_eq t c) rfl)

theorem inV_set (k : Fin 8) (c : Dev nD) : (inV k c).view.set = xBand (1024 * own c + 128 * k.val) 128 :=
  (View.set_slice_whole main_arg0 _).trans (rect_xBand (off2_eq c k) rfl)

theorem ownV_set (c : Dev nD) : (ownV c).view.set = oBand (near c) 4096 :=
  (View.set_slice_whole main_v1 _).trans (rect_oBand (off3_eq c) rfl)

/-! ### The result is the near half and thirty-two chunks -/

/-- The far half as its thirty-two chunks. -/
def chunks (c : Dev nD) : Finset S8192x1024.Idx := Finset.univ.biUnion fun t => oBand (row c t) 128

theorem chunks_disjoint (c : Dev nD) (t u : Tr) (h : t ≠ u) : Disjoint (oBand (row c t) 128) (oBand (row c u) 128) := by
  rw [Finset.disjoint_left]
  intro i hi hj
  rw [mem_oBand] at hi hj
  unfold row at hi hj
  exact h (slot_inj c t u (by omega))

theorem near_far (c : Dev nD) : (near c = 0 ∧ far c = 4096) ∨ (near c = 4096 ∧ far c = 0) := by
  revert c; decide +kernel

theorem near_disjoint (c : Dev nD) : Disjoint (oBand (near c) 4096) (chunks c) := by
  rw [Finset.disjoint_left]
  intro i hi hj
  obtain ⟨t, -, ht⟩ := Finset.mem_biUnion.mp hj
  rw [mem_oBand] at hi ht
  have := slot_lt c t
  unfold row at ht
  rcases near_far c with h | h <;> omega

theorem near_union (c : Dev nD) : oBand (near c) 4096 ∪ chunks c = Finset.univ := by
  ext i
  simp only [Finset.mem_union, Finset.mem_univ, iff_true]
  by_cases hn : i ∈ oBand (near c) 4096
  · exact Or.inl hn
  · right
    rw [mem_oBand] at hn
    have hi : (i 0).val < 8192 := (i 0).isLt
    have hlt : ((i 0).val - far c) / 128 < 32 := by
      rcases near_far c with h | h <;> omega
    obtain ⟨t, ht⟩ := slot_surj c ⟨_, hlt⟩
    refine Finset.mem_biUnion.mpr ⟨t, Finset.mem_univ _, mem_oBand.mpr ?_⟩
    unfold row
    rw [ht]
    simp only
    rcases near_far c with h | h <;> omega

/-- The quarter of the block sent across x, as its eight chunks. -/
theorem quarter_disjoint (c : Dev nD) (k l : Fin 8) (h : k ≠ l) :
    Disjoint (xBand (1024 * own c + 128 * k.val) 128) (xBand (1024 * own c + 128 * l.val) 128) := by
  rw [Finset.disjoint_left]
  intro i hi hj
  rw [mem_xBand] at hi hj
  exact h (Fin.ext (by omega))

/-! ### What the result holds -/

/-- The device whose block fills quarter `g` of the far half of device `c`. -/
def srcDev (c : Dev nD) (g : Nat) : Dev nD :=
  ⟨(8 * (1 - c.val / 8) + 4 * (g / 2 % 2) + 2 * (c.val % 4 / 2) + g % 2) % 16, Nat.mod_lt _ (by decide)⟩

/-- The device whose block fills row `r` of device `c`'s result. -/
def origin (c : Dev nD) (r : Nat) : Dev nD :=
  if r / 4096 = c.val / 8 then c else srcDev c (r % 4096 / 1024)

/-- A row of the result, within the block it comes from. -/
def fold (i : S8192x1024.Idx) : S4096x1024.Idx := fun a =>
  ⟨(i a).val % S4096x1024.size a, Nat.mod_lt _ (by match a with | 0 => decide | 1 => decide)⟩

/-- The result on device `c`, from the blocks the devices start with. -/
def whole {V : Type} (X : Dev nD → S4096x1024.Idx → V) (c : Dev nD) : S8192x1024.Idx → V :=
  fun i => X (origin c (i 0).val) (fold i)

theorem srcDev_mate : ∀ (t : Tr), relayed t = true → ∀ (c : Dev nD) (g : Fin 4), srcDev (mate t c) g.val = srcDev c g.val := by
  decide +kernel

theorem srcDev_x : ∀ c : Dev nD, srcDev (pr 0 c) (own c) = c := by decide +kernel

theorem half_mate : ∀ (t : Tr), relayed t = true → ∀ c : Dev nD, (mate t c).val / 8 = c.val / 8 := by decide +kernel

theorem near_div : ∀ c : Dev nD, near c / 4096 = c.val / 8 := by decide +kernel
theorem far_x : ∀ c : Dev nD, near c / 4096 ≠ (pr 0 c).val / 8 := by decide +kernel

/-- Off x the two ends of an exchange are to hold the same result. -/
theorem whole_mate {V : Type} (X : Dev nD → S4096x1024.Idx → V) (t : Tr) (h : relayed t = true) (c : Dev nD)
    (i : S8192x1024.Idx) (hi : i ∈ oBand (row (mate t c) t) 128) : whole X (mate t c) i = whole X c i := by
  rw [mem_oBand] at hi
  have hs := slot_lt (mate t c) t
  have hne : ¬ (i 0).val / 4096 = c.val / 8 := by
    rw [← near_div c]
    unfold row at hi
    rw [far_mate t h] at hi
    rcases near_far c with h' | h' <;> omega
  have hq : (i 0).val % 4096 / 1024 < 4 := by omega
  unfold whole origin
  rw [half_mate t h, if_neg hne, if_neg hne]
  exact congrArg (fun d => X d (fold i)) (srcDev_mate t h c ⟨_, hq⟩)

theorem row_x (k : Fin 8) (c : Dev nD) : row (pr 0 c) (.x k) = near c + 128 * (8 * own c + k.val) := by
  show far (pr 0 c) + 128 * (8 * own (pr 0 c) + k.val) = _
  rw [far_mate_x, own_mate_x]

/-- Across x the receiver is to hold the sender's block. -/
theorem whole_x {V : Type} (X : Dev nD → S4096x1024.Idx → V) (k : Fin 8) (c : Dev nD)
    (i : S8192x1024.Idx) (hi : i ∈ oBand (row (pr 0 c) (.x k)) 128) : whole X (pr 0 c) i = X c (fold i) := by
  rw [mem_oBand] at hi
  rw [row_x] at hi
  have ho := own_lt c
  have hk := k.isLt
  have hd : (i 0).val / 4096 = near c / 4096 := by rcases near_far c with h' | h' <;> omega
  have hq : (i 0).val % 4096 / 1024 = own c := by rcases near_far c with h' | h' <;> omega
  unfold whole origin
  rw [hd, if_neg (far_x c), hq, srcDev_x]

/-- In the near half a device is to hold its own block. -/
theorem whole_near {V : Type} (X : Dev nD → S4096x1024.Idx → V) (c : Dev nD)
    (i : S8192x1024.Idx) (hi : i ∈ oBand (near c) 4096) : whole X c i = X c (fold i) := by
  rw [mem_oBand] at hi
  unfold whole origin
  rw [if_pos]
  rw [← near_div c]
  rcases near_far c with h' | h' <;> omega

/-! ### What a transfer lands -/

variable {F : FTy → Type} [FloatOps F]

/-- An element of a band of whole rows sits at the band's first row plus its own. -/
theorem outV_emb (t : Tr) (c : Dev nD) (j : S128x1024.Idx) (a : Fin 2) :
    ((outV t c).view.emb j a).val = (![row (mate t c) t, 0] : Fin 2 → Nat) a + (j a).val := by
  have h := congrFun (rowsOff_eq t c) a
  rw [← h]
  show rowsOff t c a + 1 * (j a).val = _
  rw [Nat.one_mul]

theorem inV_emb (k : Fin 8) (c : Dev nD) (j : S128x1024.Idx) (a : Fin 2) :
    ((inV k c).view.emb j a).val = (![1024 * own c + 128 * k.val, 0] : Fin 2 → Nat) a + (j a).val := by
  have h := congrFun (off2_eq c k) a
  rw [← h]
  show k0_off2 c (BitVec.ofNat 32 (128 * k.val)) a + 1 * (j a).val = _
  rw [Nat.one_mul]

theorem ownV_emb (c : Dev nD) (j : S4096x1024.Idx) (a : Fin 2) :
    ((ownV c).view.emb j a).val = (![near c, 0] : Fin 2 → Nat) a + (j a).val := by
  have h := congrFun (off3_eq c) a
  rw [← h]
  show k0_off3 c a + 1 * (j a).val = _
  rw [Nat.one_mul]

/-- The blocks the devices start with. -/
abbrev Blocks (F : FTy → Type) := Dev nD → S4096x1024.Idx → Elt F .f32

/-- A relayed chunk lands what the receiver is to hold. -/
theorem landed_relay (X : Blocks F) (t : Tr) (h : relayed t = true) (c : Dev nD) (fd : S8192x1024.Idx → Elt F .f32)
    (i : S8192x1024.Idx) (hi : i ∈ (outV t c).view.set) :
    (outV t c).view.write (Elt F) fd ((outV t c).view.read (Elt F) (whole X c)) Finset.univ i = whole X (mate t c) i := by
  obtain ⟨j, -, rfl⟩ := Finset.mem_map.mp hi
  rw [View.write_emb_of_mem _ _ (Finset.mem_univ j)]
  rw [outV_set] at hi
  exact (whole_mate X t h c _ hi).symm

/-- A chunk sent across x lands what the receiver is to hold. -/
theorem landed_x (X : Blocks F) (k : Fin 8) (c : Dev nD) (fd : S8192x1024.Idx → Elt F .f32)
    (i : S8192x1024.Idx) (hi : i ∈ (outV (.x k) c).view.set) :
    (outV (.x k) c).view.write (Elt F) fd ((inV k c).view.read (Elt F) (X c)) Finset.univ i = whole X (pr 0 c) i := by
  obtain ⟨j, -, rfl⟩ := Finset.mem_map.mp hi
  rw [View.write_emb_of_mem _ _ (Finset.mem_univ j)]
  rw [outV_set] at hi
  refine Eq.trans ?_ (whole_x X k c _ hi).symm
  refine congrArg (X c) (funext fun a => Fin.ext ?_)
  have ho := own_lt c
  have hk := k.isLt
  refine (inV_emb k c j a).trans ?_
  show _ = ((outV (.x k) c).view.emb j a).val % S4096x1024.size a
  rw [outV_emb (.x k) c j a]
  match a with
  | 0 =>
    have hj : (j 0).val < 128 := (j 0).isLt
    show 1024 * own c + 128 * k.val + (j 0).val = (row (pr 0 c) (.x k) + (j 0).val) % 4096
    rw [row_x]
    rcases near_far c with h' | h' <;> omega
  | 1 =>
    have hj : (j 1).val < 1024 := (j 1).isLt
    show 0 + (j 1).val = (0 + (j 1).val) % 1024
    omega

/-- The copy within the device lands its own block. -/
theorem landed_own (X : Blocks F) (c : Dev nD) (fd : S8192x1024.Idx → Elt F .f32)
    (i : S8192x1024.Idx) (hi : i ∈ (ownV c).view.set) :
    (ownV c).view.write (Elt F) fd (xM.view.read (Elt F) (X c)) Finset.univ i = whole X c i := by
  obtain ⟨j, -, rfl⟩ := Finset.mem_map.mp hi
  rw [View.write_emb_of_mem _ _ (Finset.mem_univ j)]
  rw [ownV_set] at hi
  refine Eq.trans ?_ (whole_near X c _ hi).symm
  refine congrArg (X c) (funext fun a => Fin.ext ?_)
  show (j a).val = ((ownV c).view.emb j a).val % S4096x1024.size a
  rw [ownV_emb c j a]
  match a with
  | 0 =>
    have hj : (j 0).val < 4096 := (j 0).isLt
    show (j 0).val = (near c + (j 0).val) % 4096
    rcases near_far c with h' | h' <;> omega
  | 1 =>
    have hj : (j 1).val < 1024 := (j 1).isLt
    show (j 1).val = (0 + (j 1).val) % 1024
    omega

end Cert.KernelIdeal.Gather

end
-- ==== Proof.Schedule.lean ====
/-
The cells and what each of their units hands over.

A device has sixty-six semaphore cells: the barrier, the one of its own copy, and a sending and a
receiving one per chunk. Every cell has one round. The barrier's three duties, one per exchange, each
hand the device the rows of the peer that its chunks are to land in; a receiving cell hands it the
landed chunk, holding what the result is to hold; a sending cell hands it back the source it read.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ### The cells -/

/-- A device's cells. -/
inductive Cell where
  | bar | loc | snd (t : Tr) | rcv (t : Tr)
  deriving DecidableEq, Fintype

/-- The semaphore behind a cell. -/
def csem : Cell → SemLoc sig
  | .bar => .reg barS
  | .loc => .dma locS
  | .snd t => .dma (sndS t)
  | .rcv t => .dma (rcvS t)

theorem csem_inj : Function.Injective csem := by
  have h : ∀ k l : Cell, csem k = csem l → k = l := by decide +kernel
  exact fun k l => h k l

/-- The cell a semaphore is behind, if any. -/
def which (s : SemLoc sig) : Option Cell := if h : ∃ k, csem k = s then some h.choose else none

theorem which_csem (k : Cell) : which (csem k) = some k := by
  have h : ∃ l, csem l = csem k := ⟨k, rfl⟩
  unfold which
  rw [dif_pos h, csem_inj h.choose_spec]

abbrev cell (c : Dev nD) (k : Cell) : GSem nD τ sig := ((c : Thread nD τ), csem k)

theorem cell_inj {c d : Dev nD} {k l : Cell} (h : cell c k = cell d l) : c = d ∧ k = l :=
  ⟨congrArg (fun g : GSem nD τ sig => g.1.1) h, csem_inj (congrArg Prod.snd h)⟩

/-- The units a transfer of one chunk counts, and of the whole block. -/
@[irreducible] def nChunk : ℕ := (outV (.x 0) 0).view.dmaCredit
@[irreducible] def nBlock : ℕ := (ownV 0).view.dmaCredit
theorem nChunk_pos : 0 < nChunk := by unfold nChunk; exact View.dmaCredit_pos _ (by decide)
theorem nBlock_pos : 0 < nBlock := by unfold nBlock; exact View.dmaCredit_pos _ (by decide)

/-- Every chunk counts alike, whichever rows it covers. -/
theorem credit_out (t : Tr) (c : Dev nD) : (outV t c).view.dmaCredit = nChunk := by
  unfold nChunk View.dmaCredit
  rfl
theorem credit_in (k : Fin 8) (c : Dev nD) : (inV k c).view.dmaCredit = nChunk := by
  unfold nChunk View.dmaCredit
  rfl
theorem credit_own (c : Dev nD) : (ownV c).view.dmaCredit = nBlock := by
  unfold nBlock View.dmaCredit
  rfl

/-! ### The places -/

abbrev xLoc (c : Dev nD) : Loc nD τ sig := (c : Thread nD τ).loc main_arg0
abbrev oLoc (c : Dev nD) : Loc nD τ sig := (c : Thread nD τ).loc main_v1

abbrev lhs : PosShare TreeShare := fullShare.left
abbrev rhs : PosShare TreeShare := fullShare.right

variable (X : Blocks F)

/-- The rows of device `c`'s result that chunk `t` lands in, with any contents. -/
def spot (c : Dev nD) (t : Tr) : sProp 𝕄 := iprop(∃ f, oLoc c ↦[oBand (row c t) 128]{fullShare} f)

/-- The same rows once landed. -/
def landed (c : Dev nD) (t : Tr) (q : PosShare TreeShare) : sProp 𝕄 := oLoc c ↦[oBand (row c t) 128]{q} (whole X c)

/-- A source a send reads: a chunk of the block, or half a share of a landed chunk. -/
abbrev Piece : Type := Fin 8 ⊕ (Tr × Bool)

def piece (c : Dev nD) : Piece → sProp 𝕄
  | .inl k => xLoc c ↦[xBand (1024 * own c + 128 * k.val) 128]{lhs} (X c)
  | .inr (t, true) => landed X c t lhs
  | .inr (t, false) => landed X c t rhs

/-- The source chunk `t` is sent from: each is used once. -/
def srcP : Tr → Piece
  | .x k => .inl k
  | .y k => .inr (.x k, true)
  | .z k => .inr (.x k, false)
  | .ys k => .inr (via (.ys k), true)
  | .zs k => .inr (via (.zs k), true)

/-- The near half with any contents, and once copied. -/
def ownSpot (c : Dev nD) : sProp 𝕄 := iprop(∃ f, oLoc c ↦[oBand (near c) 4096]{fullShare} f)
def ownDone (c : Dev nD) : sProp 𝕄 := oLoc c ↦[oBand (near c) 4096]{fullShare} (whole X c)
def blockR (c : Dev nD) : sProp 𝕄 := xLoc c ↦{rhs} (X c)

/-- What peer `pr a c` hands device `c` at the barrier: the rows on that peer that `c`'s chunks across
    axis `a` land in. -/
def spots (a : Fin 3) (c : Dev nD) : sProp 𝕄 :=
  bigSep Finset.univ fun t => if ax t = a then spot (pr a c) t else iprop(emp)

/-- What a unit of a cell hands the device. -/
def pay (c : Dev nD) : Cell → Fin 3 → sProp 𝕄
  | .bar, a => spots a c
  | .loc, _ => iprop(ownDone X c ∗ blockR X c)
  | .snd t, _ => piece X c (srcP t)
  | .rcv t, _ => landed X c t fullShare

instance spot_storable (c : Dev nD) (t : Tr) : BI.Storable (upEmb : UEmb _ 𝕄) (spot (F := F) c t) := by unfold spot; infer_instance
instance landed_storable (c : Dev nD) (t : Tr) (q) : BI.Storable (upEmb : UEmb _ 𝕄) (landed X c t q) := by unfold landed; infer_instance
instance piece_storable (c : Dev nD) (p : Piece) : BI.Storable (upEmb : UEmb _ 𝕄) (piece X c p) := by
  unfold piece; split <;> infer_instance
instance ownDone_storable (c : Dev nD) : BI.Storable (upEmb : UEmb _ 𝕄) (ownDone X c) := by unfold ownDone; infer_instance
instance blockR_storable (c : Dev nD) : BI.Storable (upEmb : UEmb _ 𝕄) (blockR X c) := by unfold blockR; infer_instance
instance spotIf_storable (a : Fin 3) (c : Dev nD) (t : Tr) :
    BI.Storable (upEmb : UEmb _ 𝕄) (if ax t = a then spot (F := F) (pr a c) t else iprop(emp)) := by split <;> infer_instance
instance spots_storable (a : Fin 3) (c : Dev nD) : BI.Storable (upEmb : UEmb _ 𝕄) (spots (F := F) a c) := by
  unfold spots; infer_instance
instance pay_storable (c : Dev nD) (k : Cell) (d : Fin 3) : BI.Storable (upEmb : UEmb _ 𝕄) (pay X c k d) := by
  unfold pay; split <;> infer_instance

/-! ### The schedule -/

/-- The duties of a cell's one round. -/
def dutiesOf : Option Cell → Finset (Fin 3)
  | some .bar => Finset.univ
  | some _ => {0}
  | none => ∅

/-- The units of one duty. -/
def amountOf : Option Cell → ℕ
  | some .bar => 1
  | some .loc => nBlock
  | _ => nChunk

/-- Every cell has the one round 0. -/
def sched : Schedule (GSem nD τ sig) (Fin 3) 𝕄 where
  duties g r := if r = 0 then dutiesOf (which g.2) else ∅
  unitless _ := False
  amount g _ _ := amountOf (which g.2)
  payload g _ d := match which g.2 with
    | some k => pay X g.1.1 k d
    | none => iprop(emp)
  amount_pos g _ _ _ := by
    unfold amountOf
    split
    · exact Nat.one_pos
    · exact nBlock_pos
    · exact nChunk_pos

instance sched_storable (g : GSem nD τ sig) (r : ℕ) (d : Fin 3) :
    BI.Storable (upEmb : UEmb _ 𝕄) ((sched X).payload g r d) := by
  show BI.Storable upEmb (match which g.2 with
    | some k => pay X g.1.1 k d
    | none => iprop(emp))
  split <;> infer_instance

theorem duties_cell (c : Dev nD) (k : Cell) : (sched X).duties (cell c k) 0 = dutiesOf (some k) := by
  show (if (0 : ℕ) = 0 then dutiesOf (which (csem k)) else ∅) = _
  rw [if_pos rfl, which_csem]

theorem duties_later (g : GSem nD τ sig) : ∀ r, 1 ≤ r → (sched X).duties g r = ∅ := fun r hr => by
  show (if r = 0 then _ else ∅) = _
  rw [if_neg (by omega)]

theorem amount_cell (c : Dev nD) (k : Cell) (d : Fin 3) : (sched X).amount (cell c k) 0 d = amountOf (some k) := by
  show amountOf (which (csem k)) = _
  rw [which_csem]

theorem payload_cell (c : Dev nD) (k : Cell) (d : Fin 3) : (sched X).payload (cell c k) 0 d = pay X c k d := by
  show (match which (csem k) with
    | some k => pay X c k d
    | none => iprop(emp)) = _
  rw [which_csem]

theorem zero_mem (k : Cell) : (0 : Fin 3) ∈ dutiesOf (some k) := by
  cases k <;> simp [dutiesOf]

theorem mem_duty (c : Dev nD) (k : Cell) : (0 : Fin 3) ∈ (sched X).duties (cell c k) 0 := by
  rw [duties_cell]; exact zero_mem k

theorem expect_bar (c : Dev nD) : (sched X).expect (cell c .bar) 0 = 3 := by
  unfold Schedule.expect Schedule.amountOf
  rw [duties_cell, Finset.sum_congr rfl fun d _ => amount_cell X c .bar d]
  rfl

/-- A cell that is not the barrier's has the one duty. -/
theorem expect_one (c : Dev nD) (k : Cell) (h : k ≠ .bar) : (sched X).expect (cell c k) 0 = amountOf (some k) := by
  unfold Schedule.expect Schedule.amountOf
  rw [duties_cell, Finset.sum_congr rfl fun d _ => amount_cell X c k d]
  cases k with
  | bar => exact absurd rfl h
  | _ => exact Finset.sum_singleton _ _

theorem rest_bar (c : Dev nD) :
    bigSep ((sched X).duties (cell c .bar) 0 \ ∅) (fun d => (sched X).payload (cell c .bar) 0 d) = bigSep Finset.univ fun a => spots (F := F) a c := by
  rw [Finset.sdiff_empty, duties_cell]
  exact bigSep_congr fun d _ => payload_cell X c .bar d

theorem rest_one (c : Dev nD) (k : Cell) (h : k ≠ .bar) :
    bigSep ((sched X).duties (cell c k) 0 \ ∅) (fun d => (sched X).payload (cell c k) 0 d) = pay X c k 0 := by
  rw [Finset.sdiff_empty, duties_cell]
  cases k with
  | bar => exact absurd rfl h
  | _ => exact bigSep_singleton.trans (payload_cell X c _ 0)

/-! ### What a device owes, and the order of its waits -/

/-- How late a cell is awaited: the barrier first, then the legs in turn. -/
def lvl : Cell → ℕ
  | .bar => 1
  | .rcv (.x _) => 2
  | .rcv (.y _) => 3
  | .rcv (.z _) => 3
  | .rcv (.ys _) => 4
  | .rcv (.zs _) => 4
  | _ => 0

def L (g : GSem nD τ sig) : Finset Unit := if g.1.2 = .tc then {()} else ∅
def lv (g : GSem nD τ sig) (_ : Unit) : ℕ := match which g.2 with
  | some k => lvl k
  | none => 0

theorem L_of_ne (g : GSem nD τ sig) (h : g.1.2 ≠ .tc) : L g = ∅ := if_neg h
theorem L_cell (c : Dev nD) (sm : SemLoc sig) : L ((c : Thread nD τ), sm) = {()} := if_pos rfl
theorem lv_cell (c : Dev nD) (k : Cell) (u : Unit) : lv (cell c k) u = lvl k := by
  show (match which (csem k) with
    | some k => lvl k
    | none => 0) = _
  rw [which_csem]

/-- What device `c` owes for the chunks `ts` it has yet to send. -/
def owing (c : Dev nD) : List Tr → CellTallies nD τ sig Unit
  | [] => 0
  | t :: ts => owing c ts + tallyAt (cell (mate t c) (.rcv t)) () nChunk

theorem owing_pos {c : Dev nD} {ts : List Tr} {g : GSem nD τ sig} {u : Unit} (h : 0 < owing c ts g u) :
    ∃ t ∈ ts, g = cell (mate t c) (.rcv t) := by
  induction ts with
  | nil => exact absurd h (Nat.lt_irrefl 0)
  | cons t ts ih =>
    unfold owing at h
    rw [Pi.add_apply, Finsupp.add_apply, tallyAt_apply] at h
    by_cases hg : g = cell (mate t c) (.rcv t) ∧ u = ()
    · exact ⟨t, List.mem_cons_self, hg.1⟩
    · rw [if_neg hg] at h
      obtain ⟨t', ht', e⟩ := ih h
      exact ⟨t', List.mem_cons_of_mem _ ht', e⟩

/-- A device may wait on a cell awaited before every one it still owes. -/
theorem mayWait (c : Dev nD) (k : Cell) (ts : List Tr) (h : ∀ t ∈ ts, lvl k < lvl (.rcv t)) :
    (levAts L lv : sProp 𝕄) ⊢ MayWait (c : Thread nD τ) (csem k) () (owing c ts) :=
  MayOwe.of_cut (L := L) (lev := lv) (lvl k)
    (fun p hp => by rw [Finset.mem_singleton.mp hp, L_cell]; exact Finset.mem_singleton_self _)
    (fun g u hg => by obtain ⟨t, -, rfl⟩ := owing_pos hg; rw [L_cell]; exact Finset.mem_singleton_self _)
    (fun p hp => by rw [Finset.mem_singleton.mp hp]; exact (lv_cell c k ()).le)
    (fun g u hg => by obtain ⟨t, ht, rfl⟩ := owing_pos hg; rw [lv_cell]; exact h t ht)

end Cert.KernelIdeal.Gather

end
-- ==== Proof.Engine.lean ====
/-
The body as a walk through states.

A state says, of each chunk, whether it is unsent, on its way or its source is back, whether the
device has received it, and which sources the device holds; `Res` is what the device owns in that
state. One theorem per kind of step takes it from a state to the next, and `walk` runs a list of steps
whose states `exec` computes.
-/
module

public import proofs.«01_k».proof.Proof.Schedule

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ### States -/

/-- Where a device stands. -/
structure St where
  owe : List Tr
  snd : Tr → Fin 3
  rcv : Tr → Bool
  pc : Piece → Bool
  loc : Fin 3

/-- A step's effect on the state; none where the step is not justified. -/
def step (s : St) : Step → Option St
  | .send t =>
    if s.owe.head? = some t ∧ s.snd t = 0 ∧ s.pc (srcP t) = true then
      some { s with owe := s.owe.tail, snd := Function.update s.snd t 1, pc := Function.update s.pc (srcP t) false }
    else none
  | .copy => if s.loc = 0 then some { s with loc := 1 } else none
  | .got t =>
    if s.rcv t = false ∧ ∀ u ∈ s.owe, lvl (.rcv t) < lvl (.rcv u) then
      some { s with rcv := Function.update s.rcv t true,
                    pc := Function.update (Function.update s.pc (.inr (t, true)) true) (.inr (t, false)) true }
    else none
  | .sent t =>
    if s.owe = [] ∧ s.snd t = 1 then
      some { s with snd := Function.update s.snd t 2, pc := Function.update s.pc (srcP t) true }
    else none
  | .copied => if s.owe = [] ∧ s.loc = 1 then some { s with loc := 2 } else none

/-- The states along a list of steps. -/
def exec (s : St) : List Step → Option St
  | [] => some s
  | o :: os => (step s o).bind fun s' => exec s' os

variable (X : Blocks F)

/-- What a device holds of the sending of chunk `t`. -/
def sndPart (c : Dev nD) (t : Tr) : Fin 3 → sProp 𝕄
  | 0 => iprop(dutyTok ER (cell c (.snd t)) 0 0 ∗ dutyTok ER (cell (mate t c) (.rcv t)) 0 0 ∗ spot (mate t c) t
      ∗ atPos ER (cell c (.snd t)) 0 ∅ 0)
  | 1 => iprop(cred (tallyAt (cell c (.snd t)) () nChunk) ∗ atPos ER (cell c (.snd t)) 0 ∅ 0)
  | 2 => atPos ER (cell c (.snd t)) 1 ∅ 0

/-- What it holds of the receiving of chunk `t`, its rows aside. -/
def rcvPart (c : Dev nD) (t : Tr) : Bool → sProp 𝕄
  | false => iprop(cred (tallyAt (cell c (.rcv t)) () nChunk) ∗ atPos ER (cell c (.rcv t)) 0 ∅ 0)
  | true => atPos ER (cell c (.rcv t)) 1 ∅ 0

/-- A source, if held. -/
def pcPart (c : Dev nD) (p : Piece) : Bool → sProp 𝕄
  | false => iprop(emp)
  | true => piece X c p

/-- What it holds of its own copy. -/
def locPart (c : Dev nD) : Fin 3 → sProp 𝕄
  | 0 => iprop(dutyTok ER (cell c .loc) 0 0 ∗ ownSpot c ∗ blockR X c ∗ atPos ER (cell c .loc) 0 ∅ 0)
  | 1 => iprop(cred (tallyAt (cell c .loc) () nBlock) ∗ atPos ER (cell c .loc) 0 ∅ 0)
  | 2 => iprop(ownDone X c ∗ blockR X c ∗ atPos ER (cell c .loc) 1 ∅ 0)

/-- What device `c` owns in state `s`. -/
def Res (c : Dev nD) (s : St) : sProp 𝕄 :=
  iprop((∃ W, owes (c : Thread nD τ) (owing c s.owe) W)
    ∗ (bigSep Finset.univ fun t => sndPart (F := F) c t (s.snd t))
    ∗ (bigSep Finset.univ fun t => rcvPart (F := F) c t (s.rcv t))
    ∗ (bigSep Finset.univ fun p => pcPart X c p (s.pc p))
    ∗ locPart X c s.loc)

/-- What every device knows: each cell's invariant, that each is at its first round, the levels. -/
def recs (K : Dev nD × Cell → ℕ) : sProp 𝕄 :=
  iprop((bigSep Finset.univ fun ck : Dev nD × Cell => cellInv ER (sched X) (K ck) (cell ck.1 ck.2))
    ∗ (bigSep Finset.univ fun ck : Dev nD × Cell => reached ER (cell ck.1 ck.2) 0)
    ∗ levAts L lv)

instance recs_persistent (K : Dev nD × Cell → ℕ) : BI.Persistent (recs X K) := by unfold recs; infer_instance

variable (K : Dev nD × Cell → ℕ)

theorem recs_inv (c : Dev nD) (k : Cell) : recs X K ⊢ cellInv ER (sched X) (K (c, k)) (cell c k) := by
  have h : (bigSep Finset.univ fun ck : Dev nD × Cell => cellInv ER (sched X) (K ck) (cell ck.1 ck.2))
      ⊢ cellInv ER (sched X) (K (c, k)) (cell c k) := bigSep_elim (Finset.mem_univ (c, k))
  unfold recs
  iintro ⟨H, -, -⟩
  iapply h
  iexact H

theorem recs_reached (c : Dev nD) (k : Cell) : recs X K ⊢ (reached ER (cell c k) 0 : sProp 𝕄) := by
  have h : (bigSep Finset.univ fun ck : Dev nD × Cell => (reached ER (cell ck.1 ck.2) 0 : sProp 𝕄))
      ⊢ reached ER (cell c k) 0 := bigSep_elim (Finset.mem_univ (c, k))
  unfold recs
  iintro ⟨-, H, -⟩
  iapply h
  iexact H

theorem recs_mayWait (c : Dev nD) (k : Cell) (ts : List Tr) (h : ∀ t ∈ ts, lvl k < lvl (.rcv t)) :
    recs X K ⊢ (MayWait (c : Thread nD τ) (csem k) () (owing c ts) : sProp 𝕄) := by
  have hm := mayWait (F := F) c k ts h
  unfold recs
  iintro ⟨-, -, H⟩
  iapply hm
  iexact H

/-! ### The operations -/

/-- Sending chunk `t`, from any view that holds what the receiver is to hold. -/
theorem wp_send_chunk (t : Tr) (c n : Dev nD) (hn : n = mate t c) (src : Memref sig .tc .hbm S128x1024 .f32)
    {hsc : (outV t c : Memref sig (Dev.tc n : Thread nD τ).2.kind .hbm S128x1024 .f32).view.ref.isScScratch = false}
    {hsrc : src.view.WordExact} {hdst : (outV t c).view.WordExact}
    {hsem : DmaTarget.Typed .hbm (.dma (rcvS t)) (.remote (Dev.tc n : Thread nD τ) (outV t c) (.dma (sndS t)) hsc)}
    {α : Type} {Q : α → sProp 𝕄} {k : PUnit → Prog (TpuEff nD τ sig (Elt F) Λ₀ .tc) α}
    (q : PosShare TreeShare) (fs : Buf (Elt F) (src.view.loc (c : Thread nD τ)))
    (hp : (src.view.loc (c : Thread nD τ) ↦[src.view.set]{q} fs) = piece X c (srcP t))
    (hl : ∀ (fd : S8192x1024.Idx → Elt F .f32) (i : S8192x1024.Idx), i ∈ (outV t c).view.set →
      (outV t c).view.write (Elt F) fd (src.view.read (Elt F) fs) Finset.univ i = whole X (mate t c) i)
    (ts : List Tr) (W : Waits sig Unit) :
    iprop(recs X K ∗ piece X c (srcP t) ∗ sndPart c t 0 ∗ owes (c : Thread nD τ) (owing c (t :: ts)) W)
      ⊢ iprop((sndPart c t 1 ∗ owes (c : Thread nD τ) (owing c ts) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (outV t c) (.dma (sndS t)) hsc) (.dma (rcvS t)) hsrc hdst hsem) k) Q) := by
  subst hn
  unfold sndPart spot
  iintro ⟨#HR, Hp, ⟨HtS, HtR, ⟨%fd, Hd⟩, Hat⟩, HO⟩ Hk
  ihave Hp := (Entails.of_eq hp.symm) $$ Hp
  ihave Hd := (Entails.of_eq (congrArg (fun S => (oLoc (mate t c) ↦[S]{fullShare} fd : sProp 𝕄)) (outV_set t c).symm)) $$ Hd
  iapply (Rounds.wp_send_pointsTo 𝒱₀ ER (sched X) (c : Thread nD τ) none (κ₁ := K (c, .snd t)) (κ₂ := K (mate t c, .rcv t))
    (r₁ := 0) (r₂ := 0) (d₁ := 0) (d₂ := 0) (fd := fd) (fs := fs) (q := q) (W := W)
    (mem_duty X c (.snd t)) (mem_duty X (mate t c) (.rcv t)) () () nChunk (credit_out t c)
    (amount_cell X c (.snd t) 0) (amount_cell X (mate t c) (.rcv t) 0) (owing c ts) rfl
    (Entails.of_eq (hp.trans (payload_cell X c (.snd t) 0).symm))
    (Entails.of_eq ((pointsTo_congr (hl fd)).trans
      ((congrArg (fun S => (oLoc (mate t c) ↦[S]{fullShare} (whole X (mate t c)) : sProp 𝕄)) (outV_set t c)).trans
        (payload_cell X (mate t c) (.rcv t) 0).symm)))) $$ [Hp Hd HO HtS HtR]
  · isplitr; · iapply (recs_inv X K c (.snd t)); iexact HR
    isplitr; · iapply (recs_inv X K (mate t c) (.rcv t)); iexact HR
    isplitl [Hp]; · iexact Hp
    isplitl [Hd]; · iexact Hd
    isplitl [HO]; · iexact HO
    isplitl [HtS]; · iexact HtS
    isplitr; · iapply (recs_reached X K c (.snd t)); iexact HR
    isplitl [HtR]; · iexact HtR
    iapply (recs_reached X K (mate t c) (.rcv t)); iexact HR
  iintro ⟨Hc, HO⟩
  iapply Hk
  isplitl [Hc Hat]
  · isplitl [Hc]; · iexact Hc
    iexact Hat
  iexact HO

/-- Sending chunk `t` as the body does. -/
theorem wp_send_step (t : Tr) (c : Dev nD) {α : Type} {Q : α → sProp 𝕄} {k : PUnit → Prog (TpuEff nD τ sig (Elt F) Λ₀ .tc) α}
    (ts : List Tr) (W : Waits sig Unit) :
    iprop(recs X K ∗ piece X c (srcP t) ∗ sndPart c t 0 ∗ owes (c : Thread nD τ) (owing c (t :: ts)) W)
      ⊢ iprop((sndPart c t 1 ∗ owes (c : Thread nD τ) (owing c ts) W
            -∗ wp frame (wpE (defs₀ (F := F)) 𝒱₀ (c : Thread nD τ) none) Set.univ (k ⟨⟩) Q)
          -∗ wp frame (wpE (defs₀ (F := F)) 𝒱₀ (c : Thread nD τ) none) Set.univ (.op (eff c (.send t)) k) Q) := by
  have relay (h : relayed t = true) (hs : piece X c (srcP t) = landed X c (via t) lhs ∨ piece X c (srcP t) = landed X c (via t) rhs) :
      ∃ q, ((outV t c).view.loc (c : Thread nD τ) ↦[(outV t c).view.set]{q} (whole X c) : sProp 𝕄) = piece X c (srcP t) := by
    rcases hs with hs | hs
    · exact ⟨lhs, by rw [hs, outV_set, row_mate t h]; rfl⟩
    · exact ⟨rhs, by rw [hs, outV_set, row_mate t h]; rfl⟩
  cases t with
  | x i => exact wp_send_chunk X K (.x i) c _ (tgt_eq _ c) (inV i c) lhs (X c) (by rw [inV_set]; rfl) (landed_x X i c) ts W
  | y i =>
    obtain ⟨q, hq⟩ := relay rfl (Or.inl rfl)
    exact wp_send_chunk X K (.y i) c _ (tgt_eq _ c) (outV (.y i) c) q (whole X c) hq (landed_relay X _ rfl c) ts W
  | z i =>
    obtain ⟨q, hq⟩ := relay rfl (Or.inr rfl)
    exact wp_send_chunk X K (.z i) c _ (tgt_eq _ c) (outV (.z i) c) q (whole X c) hq (landed_relay X _ rfl c) ts W
  | ys i =>
    obtain ⟨q, hq⟩ := relay rfl (Or.inl rfl)
    exact wp_send_chunk X K (.ys i) c _ (tgt_eq _ c) (outV (.ys i) c) q (whole X c) hq (landed_relay X _ rfl c) ts W
  | zs i =>
    obtain ⟨q, hq⟩ := relay rfl (Or.inl rfl)
    exact wp_send_chunk X K (.zs i) c _ (tgt_eq _ c) (outV (.zs i) c) q (whole X c) hq (landed_relay X _ rfl c) ts W

/-- A wait for all of a cell's one round. -/
theorem wp_await (c : Dev nD) (l : Cell) (hl : l ≠ .bar) (N : ℕ) (hN : amountOf (some l) = N)
    {w : TpuEff nD τ sig (Elt F) Λ₀ .tc PUnit}
    (hw : ∀ P : PUnit → sProp 𝕄, wpE (defs₀ (F := F)) 𝒱₀ (c : Thread nD τ) none Set.univ w P
      = waitSpec (c : Thread nD τ) Set.univ (csem l) N P)
    {α : Type} {Q : α → sProp 𝕄} {k : PUnit → Prog (TpuEff nD τ sig (Elt F) Λ₀ .tc) α}
    (ts : List Tr) (hts : ∀ t ∈ ts, lvl l < lvl (.rcv t)) :
    iprop(recs X K ∗ cred (tallyAt (cell c l) () N) ∗ atPos ER (cell c l) 0 ∅ 0 ∗ (∃ W, owes (c : Thread nD τ) (owing c ts) W))
      ⊢ iprop((pay X c l 0 ∗ atPos ER (cell c l) 1 ∅ 0 ∗ (∃ W, owes (c : Thread nD τ) (owing c ts) W)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hN
  iintro ⟨#HR, Hc, Hat, ⟨%W, HO⟩⟩ Hk
  iapply (Rounds.wp_wait_rest_token 𝒱₀ ER (sched X) (c : Thread nD τ) none (κ := K (c, l)) hw (Set.mem_univ _) ()
    (O := owing c ts) (W := W) (R := 0) (m := 0) (T := ∅) ((Nat.zero_add _).trans (expect_one X c l hl).symm)) $$ [Hc Hat HO]
  · isplitr; · iapply (recs_inv X K c l); iexact HR
    isplitl [Hc]; · iexact Hc
    isplitl [HO]; · iexact HO
    isplitr
    · iapply (recs_mayWait X K c l ts hts); iexact HR
    iexact Hat
  iintro ⟨HO, Hat, -, Hpay⟩
  ihave Hpay := (Entails.of_eq (rest_one X c l hl)) $$ Hpay
  iapply Hk
  isplitl [Hpay]; · iexact Hpay
  isplitl [Hat]; · iexact Hat
  iexists _; iexact HO

/-- The block, as the copy within the device reads it. -/
theorem block_src (c : Dev nD) : (blockR X c : sProp 𝕄) = ((xM : Memref sig .tc .hbm S4096x1024 .f32).view.loc (c : Thread nD τ)
    ↦[(xM : Memref sig .tc .hbm S4096x1024 .f32).view.set]{rhs} (X c)) := by
  rw [show (xM : Memref sig .tc .hbm S4096x1024 .f32).view.set = Finset.univ from View.set_whole _]; rfl

/-- The near half, as that copy writes it, holds what the result is to hold. -/
theorem own_dst (c : Dev nD) (fd : S8192x1024.Idx → Elt F .f32) :
    ((ownV c).view.loc (c : Thread nD τ) ↦[(ownV c).view.set]{fullShare}
      ((ownV c).view.write (Elt F) fd ((xM : Memref sig .tc .hbm S4096x1024 .f32).view.read (Elt F) (X c)) Finset.univ) : sProp 𝕄)
      = ownDone X c :=
  (pointsTo_congr (landed_own X c fd)).trans
    (congrArg (fun S => (oLoc c ↦[S]{fullShare} (whole X c) : sProp 𝕄)) (ownV_set c))

/-- The copy within the device, between any views whose landing makes the near half's contents. -/
theorem wp_copy_views (c : Dev nD) (src : Memref sig .tc .hbm S4096x1024 .f32) (dst : Memref sig .tc .hbm S4096x1024 .f32)
    {hsrc : src.view.WordExact} {hdst : dst.view.WordExact}
    {hsem : DmaTarget.Typed .hbm (.dma locS) (.here dst : DmaTarget nD τ sig .tc .hbm S4096x1024 .f32)}
    {α : Type} {Q : α → sProp 𝕄} {k : PUnit → Prog (TpuEff nD τ sig (Elt F) Λ₀ .tc) α}
    (fs : Buf (Elt F) (src.view.loc (c : Thread nD τ))) (fd : Buf (Elt F) (dst.view.loc (c : Thread nD τ)))
    (hN : dst.view.amount (.dma locS) = nBlock)
    (hp : iprop((dst.view.loc (c : Thread nD τ) ↦[dst.view.set]{fullShare}
        (dst.view.write (Elt F) fd (src.view.read (Elt F) fs) Finset.univ)) ∗ (src.view.loc (c : Thread nD τ) ↦[src.view.set]{rhs} fs))
      = pay X c .loc 0) :
    iprop(recs X K ∗ dutyTok ER (cell c .loc) 0 0 ∗ (dst.view.loc (c : Thread nD τ) ↦[dst.view.set]{fullShare} fd)
        ∗ (src.view.loc (c : Thread nD τ) ↦[src.view.set]{rhs} fs))
      ⊢ iprop((cred (tallyAt (cell c .loc) () nBlock)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma locS) hsrc hdst hsem) k) Q) := by
  iintro ⟨#HR, Ht, Hd, Hx⟩ Hk
  iapply (Rounds.wp_copy_pointsTo 𝒱₀ ER (sched X) (c : Thread nD τ) none (κ := K (c, .loc)) (r := 0) (d := 0)
    (fd := fd) (fs := fs) (q := rhs) (mem_duty X c .loc) () nBlock hN (amount_cell X c .loc 0)
    (Entails.of_eq (hp.trans (payload_cell X c .loc 0).symm))) $$ [Hx Hd Ht]
  · isplitr; · iapply (recs_inv X K c .loc); iexact HR
    isplitl [Hx]; · iexact Hx
    isplitl [Hd]; · iexact Hd
    isplitl [Ht]; · iexact Ht
    iapply (recs_reached X K c .loc); iexact HR
  iintro Hc
  iapply Hk
  iexact Hc

/-- The copy within the device, as the body does it. -/
theorem wp_copy_step (c : Dev nD) {α : Type} {Q : α → sProp 𝕄} {k : PUnit → Prog (TpuEff nD τ sig (Elt F) Λ₀ .tc) α} :
    iprop(recs X K ∗ locPart X c 0)
      ⊢ iprop((locPart X c 1 -∗ wp frame (wpE (defs₀ (F := F)) 𝒱₀ (c : Thread nD τ) none) Set.univ (k ⟨⟩) Q)
          -∗ wp frame (wpE (defs₀ (F := F)) 𝒱₀ (c : Thread nD τ) none) Set.univ (.op (eff c .copy) k) Q) := by
  have rule (fd : S8192x1024.Idx → Elt F .f32) :
      iprop(recs X K ∗ dutyTok ER (cell c .loc) 0 0 ∗ (oLoc c ↦[oBand (near c) 4096]{fullShare} fd) ∗ blockR X c)
        ⊢ iprop((cred (tallyAt (cell c .loc) () nBlock)
            -∗ wp frame (wpE (defs₀ (F := F)) 𝒱₀ (c : Thread nD τ) none) Set.univ (k ⟨⟩) Q)
          -∗ wp frame (wpE (defs₀ (F := F)) 𝒱₀ (c : Thread nD τ) none) Set.univ (.op (eff c .copy) k) Q) := by
    rw [← ownV_set c, block_src X c]
    exact wp_copy_views X K c xM (ownV c) (X c) fd (credit_own c) (congrArg₂ BIBase.sep (own_dst X c fd) (block_src X c).symm)
  have e0 : locPart X c 0 = iprop(dutyTok ER (cell c .loc) 0 0 ∗ (∃ f, oLoc c ↦[oBand (near c) 4096]{fullShare} f)
      ∗ blockR X c ∗ atPos ER (cell c .loc) 0 ∅ 0) := rfl
  have e1 : locPart X c 1 = iprop(cred (tallyAt (cell c .loc) () nBlock) ∗ atPos ER (cell c .loc) 0 ∅ 0) := rfl
  rw [e0, e1]
  iintro ⟨HR, Ht, ⟨%fd, Hd⟩, Hx, Hat⟩ Hk
  iapply (rule fd) $$ [HR Ht Hd Hx]
  · isplitl [HR]; · iexact HR
    isplitl [Ht]; · iexact Ht
    isplitl [Hd]; · iexact Hd
    iexact Hx
  iintro Hc
  iapply Hk
  isplitl [Hc]; · iexact Hc
  iexact Hat

end Cert.KernelIdeal.Gather

end
-- ==== Proof.Walk.lean ====
/-
Walking through the steps.

Each step takes what a device owns in a state to what it owns in the next (`step_ok`), so a list of
steps takes it along the states `exec` computes (`walk`). The body's steps lead from `first`, where
nothing is sent, to `final`, where every source is back and every chunk has arrived.
-/
module

public import proofs.«01_k».proof.Proof.Engine

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Cell → ℕ)

/-! ### Sources taken and put back -/

/-- A landed chunk is two sources, one for each of two sends. -/
theorem landed_halves (c : Dev nD) (t : Tr) :
    landed X c t fullShare ⊣⊢ iprop(piece X c (.inr (t, true)) ∗ piece X c (.inr (t, false))) :=
  pointsTo_share (PosShare.mem_left_op_right fullShare)

/-- A held source may be taken. -/
theorem pieces_take (c : Dev nD) (p : Piece) (pc : Piece → Bool) (h : pc p = true) :
    (bigSep Finset.univ fun p => pcPart X c p (pc p))
      ⊢ iprop(piece X c p ∗ bigSep Finset.univ fun q => pcPart X c q (Function.update pc p false q)) := by
  have e : pcPart X c p (pc p) = piece X c p := by rw [h]; rfl
  have turn := bigSep_univ_turn (M := 𝕄) (pcPart X c) pc p
  rw [e] at turn
  iintro H
  ihave H := turn $$ H
  icases H with ⟨Hp, H⟩
  isplitl [Hp]; · iexact Hp
  iapply H $$ %false
  unfold pcPart
  iempintro

/-- A source may be put back. -/
theorem pieces_put (c : Dev nD) (p : Piece) (pc : Piece → Bool) :
    iprop(piece X c p ∗ bigSep Finset.univ fun p => pcPart X c p (pc p))
      ⊢ bigSep Finset.univ fun q => pcPart X c q (Function.update pc p true q) := by
  have turn := bigSep_univ_turn (M := 𝕄) (pcPart X c) pc p
  iintro ⟨Hp, H⟩
  ihave H := turn $$ H
  icases H with ⟨-, H⟩
  iapply H $$ %true
  unfold pcPart
  iexact Hp

/-! ### One step -/

/-- A guarded value was let through. -/
theorem of_ite {p : Prop} [Decidable p] {A : Type} {a b : A} (h : (if p then some a else none) = some b) : p ∧ a = b := by
  by_cases hp : p
  · rw [if_pos hp] at h; exact ⟨hp, Option.some.inj h⟩
  · rw [if_neg hp] at h; exact absurd h (by simp)

section Steps

variable (c : Dev nD)

/-- A send. -/
theorem step_send {α : Type} {Q : α → sProp 𝕄} {k : PUnit → Prog (TpuEff nD τ sig (Elt F) Λ₀ .tc) α} (s s' : St) (t : Tr) (h : step s (.send t) = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c (.send t)) k) Q) := by
  obtain ⟨⟨h1, h2, h3⟩, rfl⟩ := of_ite h
  obtain ⟨owe, snd, rcv, pc, loc⟩ := s
  obtain ⟨ts, rfl⟩ : ∃ ts, owe = t :: ts := by
    cases owe with
    | nil => exact absurd h1 (by simp)
    | cons a us => exact ⟨us, by rw [show a = t from Option.some.inj h1]⟩
  have e : sndPart (F := F) c t (snd t) = sndPart c t 0 := by rw [show snd t = 0 from h2]
  have turn := bigSep_univ_turn (M := 𝕄) (sndPart (F := F) c) snd t
  rw [e] at turn
  unfold Res
  iintro ⟨HR, ⟨%W, HO⟩, HS, HV, HP, HL⟩ Hk
  ihave HS := turn $$ HS
  icases HS with ⟨Ht, HS⟩
  ihave HP := (pieces_take X c (srcP t) pc h3) $$ HP
  icases HP with ⟨Hp, HP⟩
  iapply (wp_send_step X K t c ts W) $$ [HR Hp Ht HO]
  · isplitl [HR]; · iexact HR
    isplitl [Hp]; · iexact Hp
    isplitl [Ht]; · iexact Ht
    iexact HO
  iintro ⟨Ht, HO⟩
  iapply Hk
  isplitl [HO]; · iexists W; iexact HO
  isplitl [HS Ht]; · iapply HS $$ %1; iexact Ht
  isplitl [HV]; · iexact HV
  isplitl [HP]; · iexact HP
  iexact HL

/-- The copy within the device. -/
theorem step_copy {α : Type} {Q : α → sProp 𝕄} {k : PUnit → Prog (TpuEff nD τ sig (Elt F) Λ₀ .tc) α} (s s' : St) (h : step s .copy = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c .copy) k) Q) := by
  obtain ⟨hc, rfl⟩ := of_ite h
  obtain ⟨owe, snd, rcv, pc, loc⟩ := s
  obtain rfl : loc = 0 := hc
  unfold Res
  iintro ⟨HR, HO, HS, HV, HP, HL⟩ Hk
  iapply (wp_copy_step X K c) $$ [HR HL]
  · isplitl [HR]; · iexact HR
    iexact HL
  iintro HL
  iapply Hk
  isplitl [HO]; · iexact HO
  isplitl [HS]; · iexact HS
  isplitl [HV]; · iexact HV
  isplitl [HP]; · iexact HP
  iexact HL

/-- The arrival of a chunk. -/
theorem step_got {α : Type} {Q : α → sProp 𝕄} {k : PUnit → Prog (TpuEff nD τ sig (Elt F) Λ₀ .tc) α} (s s' : St) (t : Tr) (h : step s (.got t) = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c (.got t)) k) Q) := by
  obtain ⟨⟨h1, h2⟩, rfl⟩ := of_ite h
  obtain ⟨owe, snd, rcv, pc, loc⟩ := s
  have e : rcvPart (F := F) c t (rcv t) = rcvPart c t false := by rw [show rcv t = false from h1]
  have turn := bigSep_univ_turn (M := 𝕄) (rcvPart (F := F) c) rcv t
  rw [e] at turn
  have e0 : rcvPart (F := F) c t false
      = iprop(cred (tallyAt (cell c (.rcv t)) () nChunk) ∗ atPos ER (cell c (.rcv t)) 0 ∅ 0) := rfl
  rw [e0] at turn
  have rule := wp_await X K c (.rcv t) (by simp) nChunk rfl (w := eff c (.got t))
    (fun P => congrArg (fun n => waitSpec (c : Thread nD τ) Set.univ (csem (.rcv t)) n P) (credit_out t c)) (Q := Q) (k := k) owe h2
  unfold Res
  iintro ⟨HR, HO, HS, HV, HP, HL⟩ Hk
  ihave HV := turn $$ HV
  icases HV with ⟨⟨Hc, Hat⟩, HV⟩
  iapply rule $$ [HR Hc Hat HO]
  · isplitl [HR]; · iexact HR
    isplitl [Hc]; · iexact Hc
    isplitl [Hat]; · iexact Hat
    iexact HO
  iintro ⟨Hpay, Hat, HO⟩
  ihave Hpay := (show pay X c (.rcv t) 0 ⊢ _ from (landed_halves X c t).1) $$ Hpay
  icases Hpay with ⟨H1, H2⟩
  ihave HP := (pieces_put X c (.inr (t, true)) pc) $$ [H1 HP]
  · isplitl [H1]; · iexact H1
    iexact HP
  ihave HP := (pieces_put X c (.inr (t, false)) _) $$ [H2 HP]
  · isplitl [H2]; · iexact H2
    iexact HP
  iapply Hk
  isplitl [HO]; · iexact HO
  isplitl [HS]; · iexact HS
  isplitl [HV Hat]
  · iapply HV $$ %true
    iapply (show (atPos ER (cell c (.rcv t)) 1 ∅ 0 : sProp 𝕄) ⊢ rcvPart c t true from BI.Entails.refl _)
    iexact Hat
  isplitl [HP]; · iexact HP
  iexact HL

/-- What the wait for a chunk's source counts. -/
theorem wait_sent (t : Tr) (P : PUnit → sProp 𝕄) : wpE (defs₀ (F := F)) 𝒱₀ (c : Thread nD τ) none Set.univ (eff c (.sent t)) P
    = waitSpec (c : Thread nD τ) Set.univ (csem (.snd t)) nChunk P := by
  cases t with
  | x i =>
    exact congrArg (fun n => waitSpec (c : Thread nD τ) Set.univ (csem (.snd (.x i))) n P) (credit_in i c)
  | y i =>
    exact congrArg (fun n => waitSpec (c : Thread nD τ) Set.univ (csem (.snd (.y i))) n P) (credit_out (.y i) c)
  | z i =>
    exact congrArg (fun n => waitSpec (c : Thread nD τ) Set.univ (csem (.snd (.z i))) n P) (credit_out (.z i) c)
  | ys i =>
    exact congrArg (fun n => waitSpec (c : Thread nD τ) Set.univ (csem (.snd (.ys i))) n P) (credit_out (.ys i) c)
  | zs i =>
    exact congrArg (fun n => waitSpec (c : Thread nD τ) Set.univ (csem (.snd (.zs i))) n P) (credit_out (.zs i) c)

/-- The return of a source. -/
theorem step_sent {α : Type} {Q : α → sProp 𝕄} {k : PUnit → Prog (TpuEff nD τ sig (Elt F) Λ₀ .tc) α} (s s' : St) (t : Tr) (h : step s (.sent t) = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c (.sent t)) k) Q) := by
  obtain ⟨⟨h1, h2⟩, rfl⟩ := of_ite h
  obtain ⟨owe, snd, rcv, pc, loc⟩ := s
  obtain rfl : owe = [] := h1
  have e : sndPart (F := F) c t (snd t) = sndPart c t 1 := by rw [show snd t = 1 from h2]
  have turn := bigSep_univ_turn (M := 𝕄) (sndPart (F := F) c) snd t
  rw [e] at turn
  have e0 : sndPart (F := F) c t 1
      = iprop(cred (tallyAt (cell c (.snd t)) () nChunk) ∗ atPos ER (cell c (.snd t)) 0 ∅ 0) := rfl
  rw [e0] at turn
  have rule := wp_await X K c (.snd t) (by simp) nChunk rfl (w := eff c (.sent t)) (wait_sent c t) (Q := Q) (k := k) []
    (by simp)
  unfold Res
  iintro ⟨HR, HO, HS, HV, HP, HL⟩ Hk
  ihave HS := turn $$ HS
  icases HS with ⟨⟨Hc, Hat⟩, HS⟩
  iapply rule $$ [HR Hc Hat HO]
  · isplitl [HR]; · iexact HR
    isplitl [Hc]; · iexact Hc
    isplitl [Hat]; · iexact Hat
    iexact HO
  iintro ⟨Hpay, Hat, HO⟩
  ihave HP := (pieces_put X c (srcP t) pc) $$ [Hpay HP]
  · isplitl [Hpay]; · iapply (show pay X c (.snd t) 0 ⊢ piece X c (srcP t) from BI.Entails.refl _); iexact Hpay
    iexact HP
  iapply Hk
  isplitl [HO]; · iexact HO
  isplitl [HS Hat]
  · iapply HS $$ %2
    iapply (show (atPos ER (cell c (.snd t)) 1 ∅ 0 : sProp 𝕄) ⊢ sndPart c t 2 from BI.Entails.refl _)
    iexact Hat
  isplitl [HV]; · iexact HV
  isplitl [HP]; · iexact HP
  iexact HL

/-- The end of the copy within the device. -/
theorem step_copied {α : Type} {Q : α → sProp 𝕄} {k : PUnit → Prog (TpuEff nD τ sig (Elt F) Λ₀ .tc) α} (s s' : St) (h : step s .copied = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c .copied) k) Q) := by
  obtain ⟨⟨h1, h2⟩, rfl⟩ := of_ite h
  obtain ⟨owe, snd, rcv, pc, loc⟩ := s
  obtain rfl : owe = [] := h1
  obtain rfl : loc = 1 := h2
  have rule := wp_await X K c .loc (by simp) nBlock rfl (w := eff c .copied)
    (fun P => congrArg (fun n => waitSpec (c : Thread nD τ) Set.univ (csem .loc) n P) (credit_own c)) (Q := Q) (k := k) [] (by simp)
  have e1 : locPart X c 1 = iprop(cred (tallyAt (cell c .loc) () nBlock) ∗ atPos ER (cell c .loc) 0 ∅ 0) := rfl
  have e2 : locPart X c 2 = iprop(ownDone X c ∗ blockR X c ∗ atPos ER (cell c .loc) 1 ∅ 0) := rfl
  have e3 : pay X c .loc 0 = iprop(ownDone X c ∗ blockR X c) := rfl
  unfold Res
  rw [e1, e2]
  rw [e3] at rule
  iintro ⟨HR, HO, HS, HV, HP, Hc, Hat⟩ Hk
  iapply rule $$ [HR Hc Hat HO]
  · isplitl [HR]; · iexact HR
    isplitl [Hc]; · iexact Hc
    isplitl [Hat]; · iexact Hat
    iexact HO
  iintro ⟨⟨Hd, Hx⟩, Hat, HO⟩
  iapply Hk
  isplitl [HO]; · iexact HO
  isplitl [HS]; · iexact HS
  isplitl [HV]; · iexact HV
  isplitl [HP]; · iexact HP
  isplitl [Hd]; · iexact Hd
  isplitl [Hx]; · iexact Hx
  iexact Hat

/-- Any step takes what the device owns to what it owns in the next state. -/
theorem step_ok {α : Type} {Q : α → sProp 𝕄} {k : PUnit → Prog (TpuEff nD τ sig (Elt F) Λ₀ .tc) α} (s s' : St) (o : Step) (h : step s o = some s') :
    iprop(recs X K ∗ Res X c s)
      ⊢ iprop((Res X c s' -∗ wp frame (wpE (defs₀ (F := F)) 𝒱₀ (c : Thread nD τ) none) Set.univ (k ⟨⟩) Q)
          -∗ wp frame (wpE (defs₀ (F := F)) 𝒱₀ (c : Thread nD τ) none) Set.univ (.op (eff c o) k) Q) := by
  cases o with
  | send t => exact step_send X K c s s' t h
  | copy => exact step_copy X K c s s' h
  | got t => exact step_got X K c s s' t h
  | sent t => exact step_sent X K c s s' t h
  | copied => exact step_copied X K c s s' h

end Steps

/-- A list of steps takes it along the states. -/
theorem walk (c : Dev nD) {Q : PUnit → sProp 𝕄} (s' : St) (os : List Step) : ∀ s : St, exec s os = some s' →
    iprop(recs X K ∗ Res X c s)
      ⊢ iprop((Res X c s' -∗ wp frame (wpE (defs₀ (F := F)) 𝒱₀ (c : Thread nD τ) none) Set.univ (.ret ⟨⟩) Q)
          -∗ wp frame (wpE (defs₀ (F := F)) 𝒱₀ (c : Thread nD τ) none) Set.univ (run c os) Q) := by
  induction os with
  | nil =>
    intro s h
    obtain rfl := Option.some.inj h
    unfold run
    iintro ⟨-, H⟩ Hk
    iapply Hk
    iexact H
  | cons o os ih =>
    intro s h
    obtain ⟨s₁, h1, h2⟩ := Option.bind_eq_some_iff.mp h
    have hs := step_ok X K c s s₁ o h1 (Q := Q) (k := fun _ => run c os)
    have hi := ih s₁ h2
    unfold run
    iintro ⟨#HR, H⟩ Hk
    iapply hs $$ [H]
    · isplitr; · iexact HR
      iexact H
    iintro H
    iapply hi $$ [H]
    · isplitr; · iexact HR
      iexact H
    iexact Hk

/-! ### The body's steps -/

/-- The order the chunks are sent in. -/
def order : List Tr := steps.filterMap fun o => match o with
  | .send t => some t
  | _ => none

/-- Nothing sent, the block held. -/
def first : St where
  owe := order
  snd _ := 0
  rcv _ := false
  pc p := p.isLeft
  loc := 0

/-- Everything sent, received and back. -/
def final : St where
  owe := []
  snd _ := 2
  rcv _ := true
  pc _ := true
  loc := 2

/-- Two states are one if they agree in every part. -/
def agree (s s' : St) : Bool :=
  s.owe = s'.owe && decide (s.snd = s'.snd) && decide (s.rcv = s'.rcv) && decide (s.pc = s'.pc) && s.loc = s'.loc

/-- The body's steps lead from the first state to the final one. -/
theorem exec_steps : exec first steps = some final := by
  have h : ((exec first steps).map fun s => agree s final) = some true := by decide +kernel
  obtain ⟨s, hs, ha⟩ := Option.map_eq_some_iff.mp h
  rw [hs]
  obtain ⟨owe, snd, rcv, pc, loc⟩ := s
  simp only [agree, Bool.and_eq_true, decide_eq_true_eq] at ha
  obtain ⟨⟨⟨⟨h1, h2⟩, h3⟩, h4⟩, h5⟩ := ha
  rw [h1, h2, h3, h4, h5]

end Cert.KernelIdeal.Gather

end
-- ==== Proof.Split.lean ====
/-
Taking the two arrays apart and putting them together.

The block splits into a half share for the device's own copy and, of the other half share, the chunks
its sends read and the rest. The result splits into the near half and the rows the chunks land in; at
the barrier these go out axis by axis, and at the end everything is the whole array again.
-/
module

public import proofs.«01_k».proof.Proof.Walk

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ### Products over the kinds of cells and over the axes -/

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_two (Φ : Bool → sProp 𝕄) : bigSep Finset.univ Φ = iprop(Φ true ∗ Φ false) :=
  bigSep_univ_eq_bigSepL [true, false] (by decide) (by decide) Φ

/-- The cells as the barrier, the own copy's, and two per chunk. -/
def cellEquiv : Bool ⊕ (Tr ⊕ Tr) ≃ Cell where
  toFun
    | .inl true => .bar
    | .inl false => .loc
    | .inr (.inl t) => .snd t
    | .inr (.inr t) => .rcv t
  invFun
    | .bar => .inl true
    | .loc => .inl false
    | .snd t => .inr (.inl t)
    | .rcv t => .inr (.inr t)
  left_inv x := by rcases x with (_ | _) | _ | _ <;> rfl
  right_inv k := by cases k <;> rfl

theorem bigSep_cells (Φ : Cell → sProp 𝕄) : bigSep Finset.univ Φ
    = iprop((Φ .bar ∗ Φ .loc) ∗ (bigSep Finset.univ fun t => Φ (.snd t)) ∗ bigSep Finset.univ fun t => Φ (.rcv t)) := by
  rw [bigSep_univ_equiv cellEquiv, bigSep_univ_sum, bigSep_univ_sum, bigSep_two]
  rfl

/-- One of the three axes: the others give nothing. -/
theorem one_axis (b : Fin 3) (P : sProp 𝕄) : (bigSep Finset.univ fun a : Fin 3 => if b = a then P else iprop(emp)) = P := by
  rw [bigSep_univ_at _ b, if_pos rfl, bigSep_congr (s := Finset.univ.erase b) (Ψ := fun _ => iprop(emp))
    fun a ha => if_neg (Finset.ne_of_mem_erase ha).symm]
  exact (congrArg (BI.sep P) (bigSep_emp_const _)).trans (sep_emp_eq P)

/-- Over all chunks at once is axis by axis. -/
theorem by_axis (P : Tr → sProp 𝕄) :
    (bigSep Finset.univ fun a : Fin 3 => bigSep Finset.univ fun t => if ax t = a then P t else iprop(emp))
      = bigSep Finset.univ P := by
  rw [bigSep_univ_comm]
  exact bigSep_congr fun t _ => one_axis (ax t) (P t)

/-- What a device gives its peer across an axis: its own rows that the peer's chunks land in; -/
theorem spots_give (a : Fin 3) (c : Dev nD) :
    spots (F := F) a (pr a c) = bigSep Finset.univ fun t => if ax t = a then spot c t else iprop(emp) := by
  unfold spots
  rw [pr_pr]

/-- and what it gets from all three: the rows each of its chunks lands in. -/
theorem spots_got (c : Dev nD) :
    (bigSep Finset.univ fun a => spots (F := F) a c) = bigSep Finset.univ fun t => spot (mate t c) t := by
  rw [← by_axis]
  refine bigSep_congr fun a _ => bigSep_congr fun t _ => ?_
  by_cases h : ax t = a
  · rw [if_pos h, if_pos h]; subst h; rfl
  · rw [if_neg h, if_neg h]

/-! ### The block -/

/-- The rows of the block no send reads. -/
def quarters (c : Dev nD) : Finset S4096x1024.Idx := Finset.univ.biUnion fun k : Fin 8 => xBand (1024 * own c + 128 * k.val) 128

def blockRest (c : Dev nD) : sProp 𝕄 := xLoc c ↦[Finset.univ \ quarters c]{lhs} (X c)

theorem block_lhs (c : Dev nD) : (xLoc c ↦{lhs} (X c) : sProp 𝕄)
    ⊣⊢ iprop((bigSep Finset.univ fun k : Fin 8 => piece X c (.inl k)) ∗ blockRest X c) := by
  have h := pointsTo_split_subset (Ix := Unit) (Name := ℕ) (U := UU) (Lvl := ℕ) (Val := Elt F) (ℓ := xLoc c) (q := lhs) (f := X c)
    (Finset.subset_univ (quarters c))
  have e : (xLoc c ↦[quarters c]{lhs} (X c) : sProp 𝕄) = bigSep Finset.univ fun k : Fin 8 => piece X c (.inl k) :=
    pointsTo_biUnion Finset.univ _ fun k _ l _ hkl => quarter_disjoint c k l hkl
  rw [e] at h
  exact h

theorem block_split (c : Dev nD) : (xLoc c ↦{fullShare} (X c) : sProp 𝕄)
    ⊣⊢ iprop(((bigSep Finset.univ fun k : Fin 8 => piece X c (.inl k)) ∗ blockRest X c) ∗ blockR X c) := by
  have h : (xLoc c ↦{fullShare} (X c) : sProp 𝕄) ⊣⊢ iprop((xLoc c ↦{lhs} (X c)) ∗ blockR X c) :=
    pointsTo_share (PosShare.mem_left_op_right fullShare)
  exact ⟨h.1.trans (sep_mono_left (block_lhs X c).1), (sep_mono_left (block_lhs X c).2).trans h.2⟩

/-! ### The result -/

theorem result_union (c : Dev nD) (f : S8192x1024.Idx → Elt F .f32) : (oLoc c ↦{fullShare} f : sProp 𝕄)
    ⊣⊢ iprop((oLoc c ↦[oBand (near c) 4096]{fullShare} f) ∗ bigSep Finset.univ fun t => oLoc c ↦[oBand (row c t) 128]{fullShare} f) := by
  have h := pointsTo_union (Ix := Unit) (Name := ℕ) (U := UU) (Lvl := ℕ) (Val := Elt F) (ℓ := oLoc c) (q := fullShare) (f := f)
    (near_disjoint c)
  have e : (oLoc c ↦[chunks c]{fullShare} f : sProp 𝕄) = bigSep Finset.univ fun t => oLoc c ↦[oBand (row c t) 128]{fullShare} f :=
    pointsTo_biUnion Finset.univ _ fun t _ u _ htu => chunks_disjoint c t u htu
  rw [near_union, e] at h
  exact h

/-- The result with any contents is the near half's place and the places of the chunks, given out by axis. -/
theorem result_split (c : Dev nD) (f : S8192x1024.Idx → Elt F .f32) : (oLoc c ↦{fullShare} f : sProp 𝕄)
    ⊢ iprop(ownSpot c ∗ bigSep Finset.univ fun a => spots a (pr a c)) := by
  rw [show (bigSep Finset.univ fun a => spots (F := F) a (pr a c)) = bigSep Finset.univ fun t => spot c t from
    (bigSep_congr fun a _ => spots_give a c).trans (by_axis _)]
  have h1 : (oLoc c ↦[oBand (near c) 4096]{fullShare} f : sProp 𝕄) ⊢ ownSpot c := by
    unfold ownSpot; iintro H; iexists f; iexact H
  have h2 (t : Tr) : (oLoc c ↦[oBand (row c t) 128]{fullShare} f : sProp 𝕄) ⊢ spot c t := by
    unfold spot; iintro H; iexists f; iexact H
  exact (result_union c f).1.trans (BI.sep_mono h1 (bigSep_mono fun t _ => h2 t))

/-- Every source held at the end, with the copied half, is the whole block's half share and the whole result. -/
theorem pieces_join (c : Dev nD) : iprop((bigSep Finset.univ fun p => piece X c p) ∗ blockRest X c ∗ blockR X c ∗ ownDone X c)
    ⊢ iprop((xLoc c ↦{fullShare} (X c)) ∗ (oLoc c ↦{fullShare} (whole X c))) := by
  have e : (bigSep Finset.univ fun p => piece X c p) = iprop((bigSep Finset.univ fun k : Fin 8 => piece X c (.inl k))
      ∗ bigSep Finset.univ fun t => iprop(piece X c (.inr (t, true)) ∗ piece X c (.inr (t, false)))) := by
    rw [bigSep_univ_sum, bigSep_univ_prod]
    exact congrArg _ (bigSep_congr fun t _ => bigSep_two _)
  have hl : (bigSep Finset.univ fun t => iprop(piece X c (.inr (t, true)) ∗ piece X c (.inr (t, false))))
      ⊢ bigSep Finset.univ fun t => (oLoc c ↦[oBand (row c t) 128]{fullShare} (whole X c) : sProp 𝕄) :=
    bigSep_mono fun t _ => (landed_halves X c t).2
  have hb := (block_split X c).2
  have ho := (result_union c (whole X c)).2
  rw [e]
  unfold ownDone
  iintro ⟨⟨Hk, Ht⟩, Hr, HR, Ho⟩
  ihave Ht := hl $$ Ht
  isplitl [Hk Hr HR]
  · iapply hb
    isplitr [HR]
    · isplitl [Hk]; · iexact Hk
      iexact Hr
    iexact HR
  iapply ho
  isplitl [Ho]; · iexact Ho
  iexact Ht

end Cert.KernelIdeal.Gather

end
-- ==== Proof.BodyEq.lean ====
/-
The printed body is the barrier and the list of steps.
-/
module

public import proofs.«01_k».proof.Proof.Program

@[expose] public section

noncomputable section

namespace Cert.KernelIdeal.Gather

open Cert.KernelIdeal Cert.KernelIdeal.Gen
open Idealize.ShloMosaic Idealize.SL.Sem

variable {F : FTy → Type} [FloatOps F]

/-- The whole body on device `c`, as steps. -/
def entry : Prog (TpuEff nD τ sig (Elt F) Λ₀ .tc) PUnit :=
  .op .deviceId fun c =>
  .op (.semSignal ((⟨k0_dev1 c, k0_dev1_lt c⟩ : Dev nD), .tc) barS (1#32 : BitVec 32).toInt) fun _ =>
  .op (.semSignal ((⟨k0_dev2 c, k0_dev2_lt c⟩ : Dev nD), .tc) barS (1#32 : BitVec 32).toInt) fun _ =>
  .op (.semSignal ((⟨k0_dev3 c, k0_dev3_lt c⟩ : Dev nD), .tc) barS (1#32 : BitVec 32).toInt) fun _ =>
  .op (.semWait barS (3#32 : BitVec 32).toInt) fun _ => run c steps

set_option maxRecDepth 100000 in
/-- The printed body is `entry`. -/
theorem body_eq (t : Fin cfg0.N) : bodyAt0 (F := F) t = entry := by
  unfold entry
  rw [steps_eq]
  rfl

end Cert.KernelIdeal.Gather

end
-- ==== Proof.Body.lean ====
/-
The body on one device, from what the launch gives it to what it gives back.

Three signals hand the device's rows to its peers, one wait gets it the peers' rows, the steps follow
(`walk`), and at the end every cell closes at zero with both arrays whole again.
-/
module

public import proofs.«01_k».proof.Proof.Split
public import proofs.«01_k».proof.Proof.BodyEq

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Cell → ℕ)

/-! ### What a device starts with -/

/-- What a device owes at first: the chunks it sends and a unit of each peer's barrier. -/
def O₀ (c : Dev nD) : CellTallies nD τ sig Unit :=
  ((owing c order + tallyAt (cell (pr 2 c) .bar) () 1) + tallyAt (cell (pr 1 c) .bar) () 1) + tallyAt (cell (pr 0 c) .bar) () 1

/-- The duties it is to do: a unit of each peer's barrier, its own copy, both ends of each send. -/
def toks (c : Dev nD) : sProp 𝕄 :=
  iprop((bigSep Finset.univ fun a : Fin 3 => dutyTok ER (cell (pr a c) .bar) 0 a)
    ∗ dutyTok ER (cell c .loc) 0 0
    ∗ (bigSep Finset.univ fun t => dutyTok ER (cell c (.snd t)) 0 0)
    ∗ bigSep Finset.univ fun t => dutyTok ER (cell (mate t c) (.rcv t)) 0 0)

/-- Its cells at their start, and those duties. -/
def linear (c : Dev nD) : sProp 𝕄 := iprop((bigSep Finset.univ fun k : Cell => atPos ER (cell c k) 0 ∅ 0) ∗ toks c)

/-- The credit of what others owe it. -/
def creds (c : Dev nD) : sProp 𝕄 :=
  iprop(cred (tallyAt (cell c .bar) () 3) ∗ bigSep Finset.univ fun t => cred (tallyAt (cell c (.rcv t)) () nChunk))

/-- The two arrays as the run finds them, and as it leaves them. -/
def arrays (c : Dev nD) (f : S8192x1024.Idx → Elt F .f32) : sProp 𝕄 :=
  iprop((xLoc c ↦{fullShare} (X c)) ∗ (oLoc c ↦{fullShare} f))

/-! ### The barrier -/

/-- A signal to the peer across axis `a`: it hands that peer the device's own rows. -/
theorem wp_signal_peer (a : Fin 3) (c n : Dev nD) (hn : n = pr a c) (O : CellTallies nD τ sig Unit) (W : Waits sig Unit)
    {α : Type} {Q : α → sProp 𝕄} {k : PUnit → Prog (TpuEff nD τ sig (Elt F) Λ₀ .tc) α} :
    iprop(recs X K ∗ owes (c : Thread nD τ) (O + tallyAt (cell (pr a c) .bar) () 1) W
        ∗ dutyTok ER (cell (pr a c) .bar) 0 a ∗ spots (F := F) a (pr a c))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32 : BitVec 32).toInt) k) Q) := by
  subst hn
  have hd : a ∈ (sched X).duties (cell (pr a c) .bar) 0 := by rw [duties_cell]; exact Finset.mem_univ a
  have hk : (sched X).amount (cell (pr a c) .bar) 0 a = 1 := amount_cell X (pr a c) .bar a
  have hp : spots (F := F) a (pr a c) ⊢ (sched X).payload ((pr a c : Thread nD τ), SemLoc.reg barS) 0 a :=
    Entails.of_eq (payload_cell X (pr a c) .bar a).symm
  iintro ⟨#HR, HO, Ht, Hp⟩ Hk
  iapply (Rounds.wp_signal 𝒱₀ ER (sched X) (c : Thread nD τ) none (dst := (pr a c : Thread nD τ)) (κ := K (pr a c, .bar))
    (d := a) hd hk () O rfl) $$ [HO Ht Hp]
  · isplitr; · iapply (recs_inv X K (pr a c) .bar); iexact HR
    isplitl [HO]; · iexact HO
    isplitl [Ht]; · iexact Ht
    isplitl [Hp]; · iapply hp; iexact Hp
    iapply (recs_reached X K (pr a c) .bar); iexact HR
  iexact Hk

/-- The wait for all three peers: it gets the device the rows its chunks land in. -/
theorem wp_wait_peers (c : Dev nD) (W : Waits sig Unit)
    {α : Type} {Q : α → sProp 𝕄} {k : PUnit → Prog (TpuEff nD τ sig (Elt F) Λ₀ .tc) α} :
    iprop(recs X K ∗ cred (tallyAt (cell c .bar) () 3) ∗ atPos ER (cell c .bar) 0 ∅ 0 ∗ owes (c : Thread nD τ) (owing c order) W)
      ⊢ iprop(((bigSep Finset.univ fun t => spot (F := F) (mate t c) t) ∗ atPos ER (cell c .bar) 1 ∅ 0
            ∗ (∃ W, owes (c : Thread nD τ) (owing c order) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toInt) k) Q) := by
  have hts : ∀ t ∈ order, lvl .bar < lvl (.rcv t) := fun t _ => by cases t <;> exact of_decide_eq_true rfl
  have he : 0 + (3#32 : BitVec 32).toNat = (sched X).expect ((c : Thread nD τ), SemLoc.reg barS) 0 := (expect_bar X c).symm
  have hr : bigSep ((sched X).duties ((c : Thread nD τ), SemLoc.reg barS) 0 \ ∅)
      (fun d => (sched X).payload ((c : Thread nD τ), SemLoc.reg barS) 0 d) ⊢ bigSep Finset.univ fun t => spot (F := F) (mate t c) t :=
    Entails.of_eq ((rest_bar X c).trans (spots_got c))
  iintro ⟨#HR, Hc, Hat, HO⟩ Hk
  iapply (Rounds.wp_wait_rest_token 𝒱₀ ER (sched X) (c : Thread nD τ) none (κ := K (c, .bar))
    (wpE_semWait_eq 𝒱₀ (c : Thread nD τ) none Set.univ) (Set.mem_univ _) ()
    (O := owing c order) (W := W) (R := 0) (m := 0) (T := ∅) he) $$ [Hc Hat HO]
  · isplitr; · iapply (recs_inv X K c .bar); iexact HR
    isplitl [Hc]; · iexact Hc
    isplitl [HO]; · iexact HO
    isplitr
    · iapply (recs_mayWait X K c .bar order hts); iexact HR
    iexact Hat
  iintro ⟨HO, Hat, -, Hpay⟩
  ihave Hpay := hr $$ Hpay
  iapply Hk
  isplitl [Hpay]; · iexact Hpay
  isplitl [Hat]; · iexact Hat
  iexists _; iexact HO

/-! ### Into the steps, and out of them -/

/-- What the device holds makes up the first state. -/
theorem res_first (c : Dev nD) :
    iprop((∃ W, owes (c : Thread nD τ) (owing c order) W)
        ∗ (dutyTok ER (cell c .loc) 0 0 ∗ ownSpot c ∗ blockR X c ∗ atPos ER (cell c .loc) 0 ∅ 0)
        ∗ ((bigSep Finset.univ fun t => dutyTok ER (cell c (.snd t)) 0 0)
          ∗ (bigSep Finset.univ fun t => dutyTok ER (cell (mate t c) (.rcv t)) 0 0)
          ∗ (bigSep Finset.univ fun t => spot (F := F) (mate t c) t)
          ∗ (bigSep Finset.univ fun t => atPos ER (cell c (.snd t)) 0 ∅ 0))
        ∗ ((bigSep Finset.univ fun t => cred (tallyAt (cell c (.rcv t)) () nChunk))
          ∗ (bigSep Finset.univ fun t => atPos ER (cell c (.rcv t)) 0 ∅ 0))
        ∗ (bigSep Finset.univ fun k : Fin 8 => piece X c (.inl k)))
      ⊢ Res X c first := by
  have hp : (bigSep Finset.univ fun k : Fin 8 => piece X c (.inl k)) ⊢ bigSep Finset.univ fun p => pcPart X c p (first.pc p) := by
    rw [bigSep_univ_sum]
    have e : (bigSep Finset.univ fun b : Tr × Bool => pcPart X c (.inr b) (first.pc (.inr b))) = (BI.emp : sProp 𝕄) :=
      bigSep_emp_const _
    rw [e]
    exact (Entails.of_eq (sep_emp_eq _).symm)
  have hs : (bigSep Finset.univ fun t => sndPart (F := F) c t (first.snd t))
      = iprop((bigSep Finset.univ fun t => dutyTok ER (cell c (.snd t)) 0 0)
          ∗ (bigSep Finset.univ fun t => dutyTok ER (cell (mate t c) (.rcv t)) 0 0)
          ∗ (bigSep Finset.univ fun t => spot (F := F) (mate t c) t)
          ∗ (bigSep Finset.univ fun t => atPos ER (cell c (.snd t)) 0 ∅ 0)) := by
    rw [← bigSep_sep', ← bigSep_sep', ← bigSep_sep']
    rfl
  have hr : (bigSep Finset.univ fun t => rcvPart (F := F) c t (first.rcv t))
      = iprop((bigSep Finset.univ fun t => cred (tallyAt (cell c (.rcv t)) () nChunk))
          ∗ (bigSep Finset.univ fun t => atPos ER (cell c (.rcv t)) 0 ∅ 0)) := by
    rw [← bigSep_sep']
    rfl
  have hl : locPart X c first.loc = iprop(dutyTok ER (cell c .loc) 0 0 ∗ ownSpot c ∗ blockR X c ∗ atPos ER (cell c .loc) 0 ∅ 0) := rfl
  have ho : first.owe = order := rfl
  unfold Res
  rw [hs, hr, hl, ho]
  iintro ⟨HO, HL, HS, HV, HP⟩
  isplitl [HO]; · iexact HO
  isplitl [HS]; · iexact HS
  isplitl [HV]; · iexact HV
  isplitl [HP]; · iapply hp; iexact HP
  iexact HL

/-- A cell at its round's end closes at zero. -/
theorem close_cell (c : Dev nD) (k : Cell) :
    iprop(recs X K ∗ atPos ER (cell c k) 1 ∅ 0) ⊢ |={Set.univ}=> (semVal (cell c k) 0 : sProp 𝕄) := by
  iintro ⟨#HR, Hat⟩
  iapply (Rounds.cell_close ER (sched X) (Set.mem_univ (K (c, k))) (fun h => h) (R := 0 + 1) (duties_later X (cell c k)))
  isplitr; · iapply (recs_inv X K c k); iexact HR
  iexact Hat

/-- All of them do. -/
theorem close_cells (c : Dev nD) :
    iprop(recs X K ∗ bigSep Finset.univ fun k : Cell => atPos ER (cell c k) 1 ∅ 0)
      ⊢ |={Set.univ}=> (bigSep Finset.univ fun k : Cell => semVal (cell c k) 0 : sProp 𝕄) := by
  have h : iprop(recs X K ∗ bigSep Finset.univ fun k : Cell => atPos ER (cell c k) 1 ∅ 0)
      ⊢ bigSep Finset.univ fun k : Cell => iprop(recs X K ∗ atPos ER (cell c k) 1 ∅ 0) := by
    rw [bigSep_sep']
    exact sep_mono_left (BI.bigSep_of_persistent _ _)
  exact h.trans ((bigSep_mono fun k _ => close_cell X K c k).trans (bigSep_fupd _ _))

/-- What the device holds in the final state gives both arrays and every cell at its round's end. -/
theorem res_final (c : Dev nD) :
    iprop(Res X c final ∗ blockRest X c ∗ atPos ER (cell c .bar) 1 ∅ 0)
      ⊢ iprop((∃ W, owes (c : Thread nD τ) 0 W) ∗ arrays X c (whole X c)
          ∗ bigSep Finset.univ fun k : Cell => atPos ER (cell c k) 1 ∅ 0) := by
  have e : Res X c final = iprop((∃ W, owes (c : Thread nD τ) 0 W)
      ∗ (bigSep Finset.univ fun t => atPos ER (cell c (.snd t)) 1 ∅ 0)
      ∗ (bigSep Finset.univ fun t => atPos ER (cell c (.rcv t)) 1 ∅ 0)
      ∗ (bigSep Finset.univ fun p => piece X c p)
      ∗ (ownDone X c ∗ blockR X c ∗ atPos ER (cell c .loc) 1 ∅ 0)) := rfl
  have hj := pieces_join X c
  rw [e, bigSep_cells]
  unfold arrays
  iintro ⟨⟨HO, HS, HV, HP, Hd, HR, Hl⟩, Hr, Hb⟩
  isplitl [HO]; · iexact HO
  isplitl [HP Hd HR Hr]
  · iapply hj
    isplitl [HP]; · iexact HP
    isplitl [Hr]; · iexact Hr
    isplitl [HR]; · iexact HR
    iexact Hd
  isplitl [Hb Hl]
  · isplitl [Hb]; · iexact Hb
    iexact Hl
  isplitl [HS]; · iexact HS
  iexact HV

/-! ### The body -/

/-- The steps, from the first state on, to both arrays whole and every cell at zero. -/
theorem wp_run (c : Dev nD) {Q : PUnit → sProp 𝕄} :
    iprop(recs X K ∗ Res X c first ∗ blockRest X c ∗ atPos ER (cell c .bar) 1 ∅ 0)
      ⊢ iprop(((∃ W, owes (c : Thread nD τ) 0 W) ∗ arrays X c (whole X c) ∗ (bigSep Finset.univ fun k : Cell => semVal (cell c k) 0)
            -∗ Q ⟨⟩)
          -∗ wp frame (wpE (defs₀ (F := F)) 𝒱₀ (c : Thread nD τ) none) Set.univ (run c steps) Q) := by
  have hw := walk X K c (Q := Q) final steps first exec_steps
  iintro ⟨#HR, H, Hr, Hb⟩ Hk
  iapply hw $$ [H]
  · isplitr; · iexact HR
    iexact H
  iintro H
  ihave H := (res_final X c) $$ [H Hr Hb]
  · isplitl [H]; · iexact H
    isplitl [Hr]; · iexact Hr
    iexact Hb
  icases H with ⟨HO, Ha, Hat⟩
  imod (close_cells X K c) $$ [Hat] with Hz
  · isplitr; · iexact HR
    iexact Hat
  rw [wp_ret]; imodintro
  iapply Hk
  isplitl [HO]; · iexact HO
  isplitl [Ha]; · iexact Ha
  iexact Hz

/-- The whole body. -/
theorem wp_entry (c : Dev nD) (f : S8192x1024.Idx → Elt F .f32) {Q : PUnit → sProp 𝕄} :
    iprop(recs X K ∗ linear c ∗ creds c ∗ arrays X c f ∗ (∃ W, owes (c : Thread nD τ) (O₀ c) W))
      ⊢ iprop(((∃ W, owes (c : Thread nD τ) 0 W) ∗ arrays X c (whole X c) ∗ (bigSep Finset.univ fun k : Cell => semVal (cell c k) 0)
            -∗ Q ⟨⟩)
          -∗ wp frame (wpE (defs₀ (F := F)) 𝒱₀ (c : Thread nD τ) none) Set.univ entry Q) := by
  have hx := (block_split X c).1
  have ho := result_split (F := F) c f
  rw [bigSep_three] at ho
  unfold linear toks creds arrays entry O₀
  rw [bigSep_three, bigSep_cells, wp_deviceId]
  iintro ⟨#HR, ⟨⟨⟨Hab, Hal⟩, Has, Har⟩, ⟨Ht0, Ht1, Ht2⟩, Htl, Hts, Htr⟩, ⟨Hcb, Hcr⟩, ⟨Hx, Ho⟩, ⟨%W, HO⟩⟩ Hk
  ihave Hx := hx $$ Hx
  icases Hx with ⟨⟨Hxk, Hxr⟩, HxR⟩
  ihave Ho := ho $$ Ho
  icases Ho with ⟨Ho, Hs0, Hs1, Hs2⟩
  iapply (wp_signal_peer X K 0 c _ (dev1_eq c) _ W) $$ [HO Ht0 Hs0]
  · isplitr; · iexact HR
    isplitl [HO]; · iexact HO
    isplitl [Ht0]; · iexact Ht0
    iexact Hs0
  iintro HO
  iapply (wp_signal_peer X K 1 c _ (dev2_eq c) _ W) $$ [HO Ht1 Hs1]
  · isplitr; · iexact HR
    isplitl [HO]; · iexact HO
    isplitl [Ht1]; · iexact Ht1
    iexact Hs1
  iintro HO
  iapply (wp_signal_peer X K 2 c _ (dev3_eq c) _ W) $$ [HO Ht2 Hs2]
  · isplitr; · iexact HR
    isplitl [HO]; · iexact HO
    isplitl [Ht2]; · iexact Ht2
    iexact Hs2
  iintro HO
  iapply (wp_wait_peers X K c W) $$ [HO Hcb Hab]
  · isplitr; · iexact HR
    isplitl [Hcb]; · iexact Hcb
    isplitl [Hab]; · iexact Hab
    iexact HO
  iintro ⟨Hsp, Hab, HO⟩
  iapply (wp_run X K c (Q := Q)) $$ [HO Htl Ho HxR Hal Hts Htr Hsp Has Hcr Har Hxk Hxr Hab]
  · isplitr; · iexact HR
    isplitr [Hxr Hab]
    · iapply (res_first X c)
      isplitl [HO]; · iexact HO
      isplitl [Htl Ho HxR Hal]
      · isplitl [Htl]; · iexact Htl
        isplitl [Ho]; · iexact Ho
        isplitl [HxR]; · iexact HxR
        iexact Hal
      isplitl [Hts Htr Hsp Has]
      · isplitl [Hts]; · iexact Hts
        isplitl [Htr]; · iexact Htr
        isplitl [Hsp]; · iexact Hsp
        iexact Has
      isplitl [Hcr Har]
      · isplitl [Hcr]; · iexact Hcr
        iexact Har
      iexact Hxk
    isplitl [Hxr]; · iexact Hxr
    iexact Hab
  iexact Hk

end Cert.KernelIdeal.Gather

end
-- ==== Proof.Ghost.lean ====
/-
What the launch mints for each device and how it is dealt out.

Every cell starts at its round 0, and the duties of all cells are handed to the devices that do them:
across the three axes, and back. The credit of each cell is what all the devices together owe it.
-/
module

public import proofs.«01_k».proof.Proof.Body

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ### The cells but the barrier -/

/-- A device's cells but the barrier: those whose semaphores are the kernel's own. -/
abbrev Own : Type := Unit ⊕ (Tr ⊕ Tr)

def ownCell : Own → Cell
  | .inl _ => .loc
  | .inr (.inl t) => .snd t
  | .inr (.inr t) => .rcv t

theorem ownCell_inj : Function.Injective ownCell := by
  rintro (_ | t | t) (_ | u | u) h <;> first | rfl | (cases h; rfl) | cases h

theorem ownCell_ne_bar (k : Own) : ownCell k ≠ .bar := by
  rcases k with _ | t | t <;> exact fun h => by cases h

def osem (k : Own) : SemLoc sig := csem (ownCell k)

theorem osem_scoped : ∀ k : Own, (osem k).isScoped .tc = true := by decide +kernel

theorem ownSemFacts : Pipeline.OwnSemFacts cfg0.spec osem :=
  ⟨osem_scoped, fun _ _ h => ownCell_inj (csem_inj h), fun _ w => w.elim0⟩

theorem bigSep_unit (Φ : Unit → sProp 𝕄) : bigSep Finset.univ Φ = Φ () :=
  bigSep_univ_eq_bigSepL [()] (by decide) (by decide) Φ

theorem bigSep_own (Φ : Own → sProp 𝕄) : bigSep Finset.univ Φ
    = iprop(Φ (.inl ()) ∗ (bigSep Finset.univ fun t => Φ (.inr (.inl t))) ∗ bigSep Finset.univ fun t => Φ (.inr (.inr t))) := by
  rw [bigSep_univ_sum, bigSep_univ_sum, bigSep_unit]
  rfl

/-- The cells are the barrier and the others. -/
theorem bigSep_bar_own (Φ : Cell → sProp 𝕄) :
    bigSep Finset.univ Φ = iprop(Φ .bar ∗ bigSep Finset.univ fun k : Own => Φ (ownCell k)) := by
  rw [bigSep_cells, bigSep_own]
  exact BI.equiv_iff.mp ⟨BI.sep_assoc, BI.sep_assoc'⟩

/-- The kernel's own semaphores and the one that is not are the cells' semaphores. -/
theorem sems_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun k : Cell => semVal (cell c k) 0 := by
  have hb : (unscopedSems0 c : sProp 𝕄) = semVal (cell c .bar) 0 := by
    unfold unscopedSems0
    rw [bigSep_eq_bigSepL_of_eq [SemLoc.reg barS] (by decide) (by decide)]
    rfl
  rw [bigSep_bar_own, hb]
  exact BI.equiv_iff.mp ⟨BI.sep_comm, BI.sep_comm⟩

/-! ### The records as minted -/

theorem cell_pair_inj : Function.Injective (fun ck : Dev nD × Cell => cell ck.1 ck.2) :=
  fun _ _ h => Prod.ext (cell_inj h).1 (cell_inj h).2

def allCells : Finset (GSem nD τ sig) := Finset.univ.map ⟨fun ck : Dev nD × Cell => cell ck.1 ck.2, cell_pair_inj⟩

/-- A device's own cells' duties: the barrier's three and one of every other. -/
def dutyAt (x : Dev nD × (Fin 3 ⊕ Own)) : GSem nD τ sig × ℕ × Fin 3 := match x.2 with
  | .inl a => (cell x.1 .bar, 0, a)
  | .inr k => (cell x.1 (ownCell k), 0, 0)

theorem dutyAt_inj : Function.Injective dutyAt := by
  rintro ⟨c, a | k⟩ ⟨d, b | l⟩ h
  · have h1 := (cell_inj (congrArg Prod.fst h)).1
    have h2 : a = b := congrArg (fun y => y.2.2) h
    subst h1; subst h2; rfl
  · exact absurd (cell_inj (congrArg Prod.fst h)).2.symm (ownCell_ne_bar l)
  · exact absurd (cell_inj (congrArg Prod.fst h)).2 (ownCell_ne_bar k)
  · have h1 := cell_inj (congrArg Prod.fst h)
    have h2 := h1.1
    have h3 := ownCell_inj h1.2
    subst h2; subst h3; rfl

def allToks : Finset (GSem nD τ sig × ℕ × Fin 3) := Finset.univ.map ⟨dutyAt, dutyAt_inj⟩

/-- The duties of the device's own cells. -/
def minted (c : Dev nD) : sProp 𝕄 :=
  iprop((bigSep Finset.univ fun a : Fin 3 => dutyTok ER (cell c .bar) 0 a)
    ∗ dutyTok ER (cell c .loc) 0 0
    ∗ (bigSep Finset.univ fun t => dutyTok ER (cell c (.snd t)) 0 0)
    ∗ bigSep Finset.univ fun t => dutyTok ER (cell c (.rcv t)) 0 0)

theorem minted_eq : (bigSep allToks fun x => (dutyTok ER x.1 x.2.1 x.2.2 : sProp 𝕄)) = bigSep Finset.univ fun c : Dev nD => minted (F := F) c := by
  unfold allToks
  rw [bigSep_map, bigSep_univ_prod]
  refine bigSep_congr fun c _ => ?_
  rw [bigSep_univ_sum, bigSep_own]
  rfl

theorem allCells_eq (Φ : GSem nD τ sig → sProp 𝕄) :
    bigSep allCells Φ = bigSep Finset.univ fun c : Dev nD => bigSep Finset.univ fun k : Cell => Φ (cell c k) := by
  unfold allCells
  rw [bigSep_map, bigSep_univ_prod]
  rfl

/-! ### The duties dealt to those who do them -/

def across (a : Fin 3) : Dev nD ≃ Dev nD := ⟨pr a, pr a, pr_pr a, pr_pr a⟩

/-- Products over the devices of products over an index may be dealt anew, each index across its axis. -/
theorem deal {I : Type} [Fintype I] (e : I → Fin 3) (Ψ : I → Dev nD → sProp 𝕄) :
    (bigSep Finset.univ fun c : Dev nD => bigSep Finset.univ fun i => Ψ i c)
      = bigSep Finset.univ fun c : Dev nD => bigSep Finset.univ fun i => Ψ i (pr (e i) c) := by
  rw [bigSep_univ_comm, bigSep_univ_comm (fun (c : Dev nD) i => Ψ i (pr (e i) c))]
  exact bigSep_congr fun i _ => bigSep_univ_equiv (across (e i)) (Ψ i)

theorem dealt : (bigSep Finset.univ fun c : Dev nD => minted (F := F) c) = bigSep Finset.univ fun c : Dev nD => toks (F := F) c := by
  unfold minted toks
  simp only [bigSep_sep']
  rw [deal (fun a => a) (fun a c => (dutyTok ER (cell c .bar) 0 a : sProp 𝕄)),
    deal ax (fun t c => (dutyTok ER (cell c (.rcv t)) 0 0 : sProp 𝕄))]

/-! ### The credit at the launch -/

/-- What device `d` owes the barrier of `c`: a unit per axis they are across. -/
theorem owed_bar (d c : Dev nD) : O₀ d (cell c .bar) () = ∑ a : Fin 3, if d = pr a c then 1 else 0 := by
  have h0 : owing d order (cell c .bar) () = 0 := by
    by_contra h
    obtain ⟨t, -, e⟩ := owing_pos (Nat.pos_of_ne_zero h)
    exact absurd (cell_inj e).2 (fun h => by cases h)
  have h1 (a : Fin 3) : (tallyAt (cell (pr a d) .bar) () 1 : CellTallies nD τ sig Unit) (cell c .bar) () = if d = pr a c then 1 else 0 := by
    rw [tallyAt_apply]
    by_cases h : d = pr a c
    · subst h; rw [pr_pr, if_pos ⟨rfl, rfl⟩, if_pos rfl]
    · rw [if_neg (fun e => h (by rw [(cell_inj e.1).1, pr_pr])), if_neg h]
  unfold O₀
  simp only [Pi.add_apply, Finsupp.add_apply, h0, h1, Fin.sum_univ_three]
  omega

/-- What device `d` owes the cell of chunk `t` on `c`, for the chunks `ts`. -/
theorem owed_chunk (d c : Dev nD) (t : Tr) (ts : List Tr) :
    owing d ts (cell c (.rcv t)) () = if d = mate t c then ts.count t * nChunk else 0 := by
  induction ts with
  | nil =>
    rw [List.count_nil, Nat.zero_mul, ite_self]
    rfl
  | cons u us ih =>
    unfold owing
    rw [Pi.add_apply, Finsupp.add_apply, ih, tallyAt_apply, List.count_cons]
    by_cases hu : u = t
    · subst hu
      by_cases hd : d = mate u c
      · subst hd
        rw [if_pos rfl, if_pos rfl, if_pos ⟨by rw [show mate u (mate u c) = c from pr_pr _ _], rfl⟩, if_pos (beq_self_eq_true u)]
        exact (Nat.succ_mul _ _).symm
      · rw [if_neg hd, if_neg hd, if_neg (fun e => hd (by rw [(cell_inj e.1).1]; exact (pr_pr _ _).symm))]
    · have h1 : ¬(cell c (.rcv t) = cell (mate u d) (.rcv u) ∧ () = ()) := fun e => hu (by have h := (cell_inj e.1).2; cases h; rfl)
      rw [if_neg h1, if_neg (fun e : (u == t) = true => hu (eq_of_beq e))]
      rfl

theorem order_once : ∀ t : Tr, order.count t = 1 := by decide +kernel

theorem owed_rcv (d c : Dev nD) (t : Tr) : O₀ d (cell c (.rcv t)) () = if d = mate t c then nChunk else 0 := by
  have h1 (a : Fin 3) : (tallyAt (cell (pr a d) .bar) () 1 : CellTallies nD τ sig Unit) (cell c (.rcv t)) () = 0 := by
    rw [tallyAt_apply, if_neg (fun e => absurd (cell_inj e.1).2 (fun h => by cases h))]
  unfold O₀
  simp only [Pi.add_apply, Finsupp.add_apply, h1, owed_chunk, order_once, Nat.one_mul, Nat.add_zero]

/-- The credit of a cell is what all devices owe it. -/
theorem credit_of_sum (g : GSem nD τ sig) (n : ℕ) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem sum_bar (c : Dev nD) : ∑ d, O₀ d (cell c .bar) () = 3 := by
  simp only [owed_bar]
  rw [Finset.sum_comm]
  simp

theorem sum_rcv (c : Dev nD) (t : Tr) : ∑ d, O₀ d (cell c (.rcv t)) () = nChunk := by
  rw [Finset.sum_congr rfl fun d _ => owed_rcv d c t, Finset.sum_ite_eq' Finset.univ (mate t c) fun _ => nChunk, if_pos (Finset.mem_univ _)]

/-- The launch's credit is the barrier's three units and a chunk on each receiving cell. -/
theorem creds_of (c : Dev nD) : (Pipeline.launchCred O₀ c : sProp 𝕄) ⊢ creds (F := F) c := by
  have h : (Pipeline.launchCred O₀ c : sProp 𝕄)
      ⊢ bigSep Finset.univ fun k : Cell => cred (tallyOn (cell c k) (launchCredit (Pipeline.owing O₀) 0 (cell c k))) := by
    unfold Pipeline.launchCred
    exact (bigSep_subset (Finset.subset_univ (Finset.univ.map (⟨csem, csem_inj⟩ : Cell ↪ SemLoc sig)))).trans
      (Entails.of_eq (bigSep_map _))
  refine h.trans ?_
  rw [bigSep_cells]
  unfold creds
  rw [credit_of_sum _ _ (sum_bar c), bigSep_congr fun t _ => congrArg (fun x => (cred x : sProp 𝕄)) (credit_of_sum _ _ (sum_rcv c t))]
  iintro ⟨⟨Hb, -⟩, -, Hr⟩
  isplitl [Hb] <;> iassumption

end Cert.KernelIdeal.Gather

end
-- ==== Proof.Launch.lean ====
/-
The run of the sixteen devices.

The launch's records are set up on all devices at once, each device's body runs by `wp_entry`, and at
the end the arrays and the semaphores are read: the result is the gathered array everywhere.
-/
module

public import proofs.«01_k».proof.Proof.Ghost
public import Idealize.ShloMosaic.Lib.Pipeline.CollectiveSegs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation)

variable (X : Blocks F)

/-! ### The records of every device, set up at once -/

/-- What the launch deals device `c`: its cells' records at round 0 and their duties. -/
def G (c : Dev nD) : sProp 𝕄 :=
  iprop((bigSep Finset.univ fun k : Cell => roundState ER (sched X) (cell c k) 0)
    ∗ (bigSep Finset.univ fun k : Cell => atPos ER (cell c k) 0 ∅ 0)
    ∗ (bigSep Finset.univ fun k : Cell => reached ER (cell c k) 0)
    ∗ minted (F := F) c)

/-- The shared records of all devices, and what device `c` alone holds. -/
def G' (c : Dev nD) : sProp 𝕄 :=
  iprop(∃ K : Dev nD × Cell → ℕ, ((bigSep Finset.univ fun ck : Dev nD × Cell => cellInv ER (sched X) (K ck) (cell ck.1 ck.2))
    ∗ bigSep Finset.univ fun ck : Dev nD × Cell => reached ER (cell ck.1 ck.2) 0) ∗ linear (F := F) c)

def u₀ : UU :=
  (initOf (Pipeline.cells cfgs cellOf_inj) (Pipeline.launchToks cfgs cellOf_inj), initOf allCells allToks)

/-- The initial records are every device's share. -/
theorem fund_cells : BI.own (ER (initOf allCells allToks)) ⊢ (|==> bigSep Finset.univ (G X) : sProp 𝕄) := by
  iintro HX
  imod (Rounds.fund ER (sched X) allCells allToks) $$ HX with ⟨Hst, Hr, Hat, Htok⟩
  imodintro
  ihave Hst := (Entails.of_eq (allCells_eq fun g => roundState ER (sched X) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq (minted_eq (F := F))) $$ Htok
  unfold G
  simp only [bigSep_sep']
  isplitl [Hst]; · iexact Hst
  isplitl [Hat]; · iexact Hat
  isplitl [Hr]; · iexact Hr
  iexact Htok

/-- A device's cells, with their semaphores at zero, are put under their invariants. -/
theorem open_cells (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Cell => iprop(∃ κ : ℕ, cellInv ER (sched X) κ (cell c k)))
          ∗ (bigSep Finset.univ fun k : Cell => atPos ER (cell c k) 0 ∅ 0)
          ∗ (bigSep Finset.univ fun k : Cell => reached ER (cell c k) 0)
          ∗ minted (F := F) c) := by
  have h : iprop((bigSep Finset.univ fun k : Cell => semVal (cell c k) 0) ∗ bigSep Finset.univ fun k : Cell => roundState ER (sched X) (cell c k) 0)
      ⊢ (|={Set.univ}=> bigSep Finset.univ fun k : Cell => iprop(∃ κ : ℕ, cellInv ER (sched X) κ (cell c k)) : sProp 𝕄) := by
    rw [← bigSep_sep']
    exact (bigSep_mono fun k _ => (Rounds.body_intro ER (sched X) (cell c k)).trans inv_alloc).trans (bigSep_fupd _ _)
  unfold G
  iintro ⟨Ho, Hu, Hst, Hrest⟩
  ihave Hv := (Entails.of_eq (sems_eq (F := F) c)) $$ [Ho Hu]
  · isplitl [Ho] <;> iassumption
  imod h $$ [Hv Hst] with Hinv
  · isplitl [Hv] <;> iassumption
  imodintro
  isplitl [Hinv] <;> iassumption

/-- A resource that may be copied goes to every factor of a product. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants become shared records and the duties go to those who do them. -/
theorem regroup :
    (bigSep Finset.univ fun c : Dev nD => iprop((bigSep Finset.univ fun k : Cell => iprop(∃ κ : ℕ, cellInv ER (sched X) κ (cell c k)))
          ∗ (bigSep Finset.univ fun k : Cell => atPos ER (cell c k) 0 ∅ 0)
          ∗ (bigSep Finset.univ fun k : Cell => reached ER (cell c k) 0)
          ∗ minted (F := F) c) : sProp 𝕄)
      ⊢ bigSep Finset.univ (G' X) := by
  rw [bigSep_sep', bigSep_sep', bigSep_sep', dealt,
    ← bigSep_univ_prod (fun ck : Dev nD × Cell => iprop(∃ κ : ℕ, cellInv ER (sched X) κ (cell ck.1 ck.2))),
    ← bigSep_univ_prod (fun ck : Dev nD × Cell => (reached ER (cell ck.1 ck.2) 0 : sProp 𝕄))]
  iintro ⟨HI, Hat, #HR, Htok⟩
  ihave HK := (BI.bigSep_exists_pi Finset.univ (fun (ck : Dev nD × Cell) (κ : ℕ) => (cellInv ER (sched X) κ (cell ck.1 ck.2) : sProp 𝕄))) $$ HI
  icases HK with ⟨%K, #HI⟩
  iapply (share_out (S := Finset.univ) (Φ := fun c : Dev nD => linear (F := F) c)
    (R := iprop((bigSep Finset.univ fun ck : Dev nD × Cell => cellInv ER (sched X) (K ck) (cell ck.1 ck.2))
      ∗ bigSep Finset.univ fun ck : Dev nD × Cell => reached ER (cell ck.1 ck.2) 0))
    (fun c _ => show _ ⊢ G' X c from by
      unfold G'
      iintro H
      iexists K
      iexact H))
  isplitr
  · isplitr <;> iassumption
  · unfold linear
    rw [bigSep_sep']
    isplitl [Hat] <;> iassumption

theorem set_up : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => open_cells X c).trans (bigSep_fupd _ _)).trans (BI.fupd_mono (regroup X))

/-! ### The run of one device -/

/-- A device before its body, and after it. -/
def before (c : Dev nD) (f : S8192x1024.Idx → Elt F .f32) : sProp 𝕄 :=
  iprop((∃ K : Dev nD × Cell → ℕ, recs X K ∗ linear (F := F) c) ∗ creds (F := F) c ∗ arrays X c f)
def after (c : Dev nD) : sProp 𝕄 :=
  iprop(arrays X c (whole X c) ∗ bigSep Finset.univ fun k : Cell => semVal (cell c k) 0)

variable (f : Dev nD → S8192x1024.Idx → Elt F .f32)

/-- No window; `before` at the one point, `after` behind it. -/
def dats (_ : Fin 1) (c : Dev nD) : Dat τ (Elt F) Unit ℕ UU ℕ cfg0 c where
  A w := w.elim0
  after w := w.elim0
  Φ t := match t with
    | ⟨0, _⟩ => before X c (f c)
    | ⟨_ + 1, _⟩ => after X c
  q w := w.elim0
  owed t := match t with
    | ⟨0, _⟩ => O₀ c
    | ⟨_ + 1, _⟩ => 0

theorem bigSep_none (Φ : Fin 0 → sProp 𝕄) : bigSep Finset.univ Φ = (BI.emp : sProp 𝕄) :=
  bigSep_univ_eq_bigSepL [] (by decide) (by decide) Φ

theorem owes_in (c : Dev nD) : ((dats X f 0 c).owesAt () t0_0.castSucc : sProp 𝕄) ⊢ iprop(∃ W, owes (c : Thread nD τ) (O₀ c) W) := by
  unfold Dat.owesAt Pipeline.owesWithin
  iintro ⟨%W, -, HO⟩
  iexists W
  iexact HO

theorem owes_out (c : Dev nD) : (iprop(∃ W, owes (c : Thread nD τ) 0 W) : sProp 𝕄) ⊢ (dats X f 0 c).owesAt () t0_0.succ := by
  unfold Dat.owesAt Pipeline.owesWithin
  iintro ⟨%W, HO⟩
  iexists W
  isplitr
  · ipureintro
    exact fun _ _ => Or.inl trivial
  iexact HO

set_option maxRecDepth 100000 in
theorem body_ok (c : Dev nD) : BodyObligation (dats X f 0 c) (defs₀ (F := F)) 𝒱₀ () Set.univ := fun t => by
  obtain rfl := fin_N0 t
  rw [bigSep_none, bigSep_none]
  have h : (iprop(before X c (f c) ∗ (dats X f 0 c).owesAt () t0_0.castSucc ∗ emp) : sProp 𝕄)
      ⊢ wp frame (wpE (defs₀ (F := F)) 𝒱₀ (c : Thread nD τ) none) Set.univ entry
          (fun _ => iprop(after X c ∗ (dats X f 0 c).owesAt () t0_0.succ ∗ emp)) := by
    unfold before after
    iintro ⟨⟨⟨%K, HR, Hl⟩, Hc, Ha⟩, HO, -⟩
    ihave HO := (owes_in X f c) $$ HO
    iapply (wp_entry X K c (f c)) $$ [HR Hl Hc Ha HO]
    · isplitl [HR]; · iexact HR
      isplitl [Hl]; · iexact Hl
      isplitl [Hc]; · iexact Hc
      isplitl [Ha] <;> iassumption
    iintro ⟨HO, Ha, Hs⟩
    isplitl [Ha Hs]
    · isplitl [Ha] <;> iassumption
    isplitl [HO]
    · iapply (owes_out X f c)
      iexact HO
    iempintro
  have e : defs₀ (F := F) .tc cfg0.body (cfg0.bodyArgs t0_0 (cfg0.slots t0_0)) = entry := body_eq (F := F) t0_0
  rw [e, show (dats X f 0 c).Φ t0_0.castSucc = before X c (f c) from rfl, show (dats X f 0 c).Φ t0_0.succ = after X c from rfl]
  exact h

/-! ### The run -/

variable (m : (ℓ : Loc nD τ sig) → Buf (Elt F) ℓ) (ρ : Dev nD → PrngReg)

/-- The blocks the devices start with. -/
abbrev blocks : Blocks F := fun c => m (xLoc c)

/-- What one device's body starts with but for the buffers the launch keeps. -/
def start (c : Dev nD) : sProp 𝕄 := before (blocks m) c (m (oLoc c))

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(start m c ∗ emp) := by
  rw [Pipeline.unscopedRestP_none, unscopedRest0_eq]
  unfold start before G' recs arrays
  iintro ⟨⟨Hx, Ho⟩, #Hlev, Hcr, -, ⟨%K, ⟨#HI, #HR⟩, Hl⟩⟩
  ihave Hc := (creds_of (F := F) c) $$ Hcr
  imodintro
  isplitl
  · isplitl [Hl]
    · iexists K
      isplitr
      · isplitr; · iexact HI
        isplitr; · iexact HR
        iexact Hlev
      iexact Hl
    isplitl [Hc]; · iexact Hc
    isplitl [Hx] <;> iassumption
  · iempintro

theorem body_in (c : Dev nD) :
    iprop(start m c ∗ Pipeline.prefHeld Pipeline.Prefetch.none c (fun _ => fullShare.right) (fun k => k.elim0) ∗ Pipeline.scopedRest cfg0.spec c)
      ⊢ (dats (blocks m) (fun c => m (oLoc c)) 0 c).Φ 0 := by
  rw [show (dats (blocks m) (fun c => m (oLoc c)) 0 c).Φ 0 = start m c from rfl]
  iintro ⟨Hs, -, -⟩
  iexact Hs

/-- What a device is left with: its arrays, and the barrier's semaphore at zero. -/
def done (c : Dev nD) : sProp 𝕄 := iprop(arrays (blocks m) c (whole (blocks m) c) ∗ unscopedSems0 c)

theorem body_out (c : Dev nD) :
    (dats (blocks m) (fun c => m (oLoc c)) 0 c).Φ (Fin.last cfg0.N)
      ⊢ iprop(done m c ∗ Pipeline.ownSems0 osem c ∗ Pipeline.scopedRest cfg0.spec c) := by
  rw [show (dats (blocks m) (fun c => m (oLoc c)) 0 c).Φ (Fin.last cfg0.N) = after (blocks m) c from rfl, scopedRest0_eq]
  unfold after done
  rw [← sems_eq]
  iintro ⟨Ha, Ho, Hu⟩
  isplitl [Ha Hu]
  · isplitl [Ha] <;> iassumption
  isplitl [Ho]; · iexact Ho
  iempintro

theorem read_out (c : Dev nD) (s' : Phys nD τ sig (Elt F)) :
    iprop(done m c ∗ emp ∗ SI s')
      ⊢ |={Set.univ}=> (iprop(⌜(s'.mem.mem (oLoc c) = whole (blocks m) c ∧ s'.mem.mem (xLoc c) = m (xLoc c))
          ∧ ∀ sm : SemLoc sig, sm.isScoped .tc = false → s'.mem.sem ((c.tc : Thread nD τ), sm) = 0⌝ ∗ SI s') : sProp 𝕄) := by
  unfold done arrays
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ho, Buf.eq_of_forall_mem_univ hx⟩, hs⟩
  iexact HSI

/-- What the run leaves: on every device the result holds the gathered array and the block is as before. -/
def Gathered (r : PUnit × MemSt nD τ sig (Elt F)) : Prop :=
  ∀ c : Dev nD, r.2.mem (oLoc c) = whole (blocks m) c ∧ r.2.mem (xLoc c) = m (xLoc c)

set_option maxRecDepth 8000 in
/-- From any memory with all counters at zero, for any float values, every weakly fair run of the sixteen
    devices ends, with the gathered array in every result, the blocks unchanged and every counter at zero. -/
theorem run_main : θ_run defs (onTc (τ := τ) (main (F := F))) ⟨m, fun _ => 0, ρ⟩ (fun r => Gathered m r ∧ r.2.sem = fun _ => 0) :=
  Pipeline.θ_run_region_owing_glob_pf (fun p => (cfgs p).toPCfg) (fun p => (cfgs p).toPCfg_adm) (dats (blocks m) (fun c => m (oLoc c))) () cellOf_inj (0 : Fin 1)
    winFacts0.to₀ ownSemFacts (Pipeline.PreFacts.none _) EP defs₀ 𝒱₀ m ρ main
    (hmain := fun _ => rfl)
    (hbody := body_ok (blocks m) (fun c => m (oLoc c)))
    (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats (blocks m) (fun c => m (oLoc c))) () 0 c fun w => w.elim0)
    (G := G (blocks m)) (G' := G' (blocks m)) (u₀ := u₀)
    (hu₀ := by
      unfold u₀
      iintro Hu
      ihave H := (ownU_pair _ _) $$ Hu
      icases H with ⟨HP, HX⟩
      imod (fund_cells (blocks m)) $$ HX with HG
      imodintro
      isplitl [HP] <;> iassumption)
    (hglob := set_up (blocks m))
    (hA := fun _ w => w.elim0) (hpf := fun _ k => k.elim0)
    (X := start m) (Y := done m) (Z := fun _ => iprop(emp))
    (hX := start_of m ρ) (hin := body_in m) (hout := body_out m)
    (QY := fun c s => (s.mem (oLoc c) = whole (blocks m) c ∧ s.mem (xLoc c) = m (xLoc c))
      ∧ ∀ sm : SemLoc sig, sm.isScoped .tc = false → s.sem ((c.tc : Thread nD τ), sm) = 0)
    (hY := read_out m)
    (hQ := fun _ h hs => ⟨fun c => (h c).2.2.1, sem_eq_zero hs fun c => (h c).2.2.2⟩)

end Cert.KernelIdeal.Gather

end
-- ==== Proof.Claims.lean ====
/-
The certificate's claims, from the run of the sixteen devices.

Under the claim's layout device `c` holds the half of the array its x coordinate names, and the gathered
result is then the whole array on every device, which is what the reference's argument, returned, is.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.RunHlo
public import Idealize.ShloMosaic.Lib.Layout
public import Idealize.ShloMosaic.Lib.Quiescent

@[expose] public section

noncomputable section

open Idealize.ShloMosaic Idealize.ShloMosaic.TcCoe Idealize.SL.Sem

namespace Cert.KernelIdeal.Gather

open Cert.KernelIdeal Cert.KernelIdeal.Gen

/-! ### The gathered blocks are the whole array -/

theorem srcDev_half : ∀ (c : Dev nD) (g : Fin 4), (srcDev c g.val).val / 8 = 1 - c.val / 8 := by decide +kernel

/-- A row comes from a device whose x coordinate names the row's half. -/
theorem origin_half (c : Dev nD) (r : ℕ) (hr : r < 8192) : (origin c r).val / 8 = r / 4096 := by
  have hc : c.val < 16 := c.isLt
  unfold origin
  split
  · omega
  · rw [srcDev_half c ⟨r % 4096 / 1024, by omega⟩]
    omega

theorem mesh_half : ∀ c : Dev nD, Layout.meshLin [2, 2, 4] c.val [0] = c.val / 8 := by decide +kernel

/-- Blocks cut along x from one array are gathered to that array on every device. -/
theorem whole_of_cut {V : Type} (X : Dev nD → S4096x1024.Idx → V) (v : S8192x1024.Idx → V)
    (h : ∀ c, X c = Layout.blockN ⟨2, ![4096, 1024]⟩ ⟨2, ![8192, 1024]⟩ (Layout.meshBlock [2, 2, 4] ![[0], []] c) v) (c : Dev nD) :
    whole X c = v := by
  funext i
  unfold whole
  rw [h, Layout.blockN_apply]
  refine congrArg v (funext fun a => Fin.ext ?_)
  have h0 : (i 0).val < 8192 := (i 0).isLt
  have h1 : (i 1).val < 1024 := (i 1).isLt
  rw [Layout.TilesN.idx_val]
  match a with
  | 0 =>
    show Layout.meshLin [2, 2, 4] (origin c (i 0).val).val [0] * 4096 + (i 0).val % 4096 = (i 0).val
    rw [mesh_half, origin_half c _ h0]
    omega
  | 1 =>
    show 0 * 1024 + (i 1).val % 1024 = (i 1).val
    omega

/-- The kernel's own frame at the reals: every device's block ends as it began and every counter at zero. -/
theorem frame_ideal : Cert.quiescent_KernelIdeal := fun m ρ _ =>
  (θ_run Cert.KernelIdeal.defs _ _).mono (fun _ h => ⟨fun c => (h.1 c).2, h.2⟩) (run_main (F := Ideal) m ρ)

set_option maxRecDepth 100000 in
/-- The same on words: the two programs are the same text. -/
theorem frame_words : Cert.quiescent_Kernel := fun m ρ _ =>
  (θ_run Cert.KernelIdeal.defs _ _).mono (fun _ h => ⟨fun c => (h.1 c).2, h.2⟩) (run_main (F := Bits) m ρ)

end Cert.KernelIdeal.Gather

namespace Cert.ReferenceIdeal.Gather

open Cert.ReferenceIdeal Cert.ReferenceIdeal.Gen

/-- The reference returns its argument: it runs, and its array stays. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0) :=
  θ_run_mono (StableHlo.run_hlo defs main (ops := []) (fun _ => StableHlo.IsSeq.nil) (by decide) (by decide) trivial
    (fun _ h => absurd h List.not_mem_nil) m ρ) fun _ h c => h c main_arg0

/-- The reference's frame; it has no semaphore. -/
theorem frame_reference : Cert.quiescent_ReferenceIdeal := fun m ρ _ =>
  θ_run_mono (run_reference m ρ) fun r h => ⟨h, sem_eq_zero_of_no_sems (by decide) r.2⟩

end Cert.ReferenceIdeal.Gather

namespace Cert.Proof

/-- On every device the kernel's result is the reference's: the whole array. -/
theorem algebraic : Cert.algebraic_KernelIdeal_ReferenceIdeal := fun m ρ m' ρ' _ hcut =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c).1).trans (Cert.KernelIdeal.Gather.whole_of_cut _ _ hcut c), (h.1 c).2⟩)
      (Cert.KernelIdeal.Gather.run_main (F := Ideal) m ρ),
    θ_run_mono (Cert.ReferenceIdeal.Gather.run_reference m' ρ') fun _ h => ⟨h 0, h 0⟩⟩

end Cert.Proof

end
-- ==== Proof.lean ====
/-
The certificate's claim: the frames of the kernel on words, of its reading at the reals and of the
reference, that no operation was rewritten, and that the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- Everything the certificate claims. -/
theorem claim : Cert.Claim := ⟨Cert.Kernel.Gen.facts, Cert.KernelIdeal.Gen.facts, Cert.ReferenceIdeal.Gen.facts,
  Cert.KernelIdeal.Gather.frame_words, Cert.KernelIdeal.Gather.frame_ideal, Cert.ReferenceIdeal.Gather.frame_reference,
  trivial, algebraic⟩

end Cert.Proof

end
